-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x128x1536 : Shape := ⟨3, ![6, 128, 1536]⟩
abbrev S6x128x48 : Shape := ⟨3, ![6, 128, 48]⟩
abbrev S8960x1536 : Shape := ⟨2, ![8960, 1536]⟩
abbrev S8960x48 : Shape := ⟨2, ![8960, 48]⟩
abbrev S768x1536 : Shape := ⟨2, ![768, 1536]⟩
abbrev S6x48x128 : Shape := ⟨3, ![6, 48, 128]⟩
abbrev S48x8960 : Shape := ⟨2, ![48, 8960]⟩
abbrev S768x8960 : Shape := ⟨2, ![768, 8960]⟩
abbrev S6x280x128 : Shape := ⟨3, ![6, 280, 128]⟩
abbrev S256x1536 : Shape := ⟨2, ![256, 1536]⟩
abbrev S48x256 : Shape := ⟨2, ![48, 256]⟩
abbrev S768x256 : Shape := ⟨2, ![768, 256]⟩
abbrev S6x8x128 : Shape := ⟨3, ![6, 8, 128]⟩
abbrev S1536x768 : Shape := ⟨2, ![1536, 768]⟩
abbrev S1x48x128 : Shape := ⟨3, ![1, 48, 128]⟩
abbrev S48x128 : Shape := ⟨2, ![48, 128]⟩
abbrev S128x128 : Shape := ⟨2, ![128, 128]⟩
abbrev S32x128 : Shape := ⟨2, ![32, 128]⟩
abbrev S1x128 : Shape := ⟨2, ![1, 128]⟩
abbrev S80x256 : Shape := ⟨2, ![80, 256]⟩
abbrev S128x256 : Shape := ⟨2, ![128, 256]⟩
abbrev S256x128 : Shape := ⟨2, ![256, 128]⟩
abbrev S256x128x1 : Shape := ⟨3, ![256, 128, 1]⟩
abbrev S256x768 : Shape := ⟨2, ![256, 768]⟩
abbrev S8x32x768 : Shape := ⟨3, ![8, 32, 768]⟩
abbrev S8x768 : Shape := ⟨2, ![8, 768]⟩
abbrev S8x1x768 : Shape := ⟨3, ![8, 1, 768]⟩
abbrev S8x128 : Shape := ⟨2, ![8, 128]⟩
abbrev S1x8x128 : Shape := ⟨3, ![1, 8, 128]⟩
abbrev S6x128x8960 : Shape := ⟨3, ![6, 128, 8960]⟩
abbrev S6x128x280 : Shape := ⟨3, ![6, 128, 280]⟩

abbrev nBuf : Space → Nat
  | .hbm => 14
  | .vmem => 17
  | .smem => 0
  | _ => 0

abbrev bufTy : (tb : Table) → Fin (tcTables nBuf tb) → BufTy
  | .hbm, ⟨0, _⟩ => ⟨S6x128x1536, .fp8e4m3⟩
  | .hbm, ⟨1, _⟩ => ⟨S6x128x48, .i8⟩
  | .hbm, ⟨2, _⟩ => ⟨S8960x1536, .fp8e4m3⟩
  | .hbm, ⟨3, _⟩ => ⟨S8960x48, .i8⟩
  | .hbm, ⟨4, _⟩ => ⟨S8960x1536, .fp8e4m3⟩
  | .hbm, ⟨5, _⟩ => ⟨S8960x48, .i8⟩
  | .hbm, ⟨6, _⟩ => ⟨S768x1536, .fp8e4m3⟩
  | .hbm, ⟨7, _⟩ => ⟨S6x48x128, .i8⟩
  | .hbm, ⟨8, _⟩ => ⟨S48x8960, .i8⟩
  | .hbm, ⟨9, _⟩ => ⟨S48x8960, .i8⟩
  | .hbm, ⟨10, _⟩ => ⟨S768x8960, .fp8e4m3⟩
  | .hbm, ⟨11, _⟩ => ⟨S6x280x128, .i8⟩
  | .hbm, ⟨12, _⟩ => ⟨S6x128x8960, .fp8e4m3⟩
  | .hbm, ⟨13, _⟩ => ⟨S6x128x280, .i8⟩
  | .local _ .vmem, ⟨0, _⟩ => ⟨S768x1536, .fp8e4m3⟩
  | .local _ .vmem, ⟨1, _⟩ => ⟨S6x48x128, .i8⟩
  | .local _ .vmem, ⟨2, _⟩ => ⟨S256x1536, .fp8e4m3⟩
  | .local _ .vmem, ⟨3, _⟩ => ⟨S256x1536, .fp8e4m3⟩
  | .local _ .vmem, ⟨4, _⟩ => ⟨S48x256, .i8⟩
  | .local _ .vmem, ⟨5, _⟩ => ⟨S48x256, .i8⟩
  | .local _ .vmem, ⟨6, _⟩ => ⟨S256x1536, .fp8e4m3⟩
  | .local _ .vmem, ⟨7, _⟩ => ⟨S256x1536, .fp8e4m3⟩
  | .local _ .vmem, ⟨8, _⟩ => ⟨S48x256, .i8⟩
  | .local _ .vmem, ⟨9, _⟩ => ⟨S48x256, .i8⟩
  | .local _ .vmem, ⟨10, _⟩ => ⟨S768x256, .fp8e4m3⟩
  | .local _ .vmem, ⟨11, _⟩ => ⟨S768x256, .fp8e4m3⟩
  | .local _ .vmem, ⟨12, _⟩ => ⟨S6x8x128, .i8⟩
  | .local _ .vmem, ⟨13, _⟩ => ⟨S6x8x128, .i8⟩
  | .local _ .vmem, ⟨14, _⟩ => ⟨S1536x768, .bf16⟩
  | .local _ .vmem, ⟨15, _⟩ => ⟨S256x1536, .bf16⟩
  | .local _ .vmem, ⟨16, _⟩ => ⟨S256x1536, .bf16⟩
  | _, _ => ⟨S6x128x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S768x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x48x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x8x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S6x128x1536 : Shape := ⟨3, ![6, 128, 1536]⟩
abbrev S6x128x48 : Shape := ⟨3, ![6, 128, 48]⟩
abbrev S8960x1536 : Shape := ⟨2, ![8960, 1536]⟩
abbrev S8960x48 : Shape := ⟨2, ![8960, 48]⟩
abbrev S768x1536 : Shape := ⟨2, ![768, 1536]⟩
abbrev S768x48 : Shape := ⟨2, ![768, 48]⟩
abbrev S768x8960 : Shape := ⟨2, ![768, 8960]⟩
abbrev S768x280 : Shape := ⟨2, ![768, 280]⟩
abbrev S768x48x32 : Shape := ⟨3, ![768, 48, 32]⟩
abbrev S768x48x1 : Shape := ⟨3, ![768, 48, 1]⟩
abbrev S8960x48x32 : Shape := ⟨3, ![8960, 48, 32]⟩
abbrev S8960x48x1 : Shape := ⟨3, ![8960, 48, 1]⟩
abbrev S768x280x32 : Shape := ⟨3, ![768, 280, 32]⟩
abbrev S768x280x1 : Shape := ⟨3, ![768, 280, 1]⟩
abbrev S6x128x8960 : Shape := ⟨3, ![6, 128, 8960]⟩
abbrev S6x128x280 : Shape := ⟨3, ![6, 128, 280]⟩

abbrev nBuf : Space → Nat
  | .hbm => 12
  | .vmem => 8
  | .smem => 0
  | _ => 0

abbrev bufTy : (tb : Table) → Fin (tcTables nBuf tb) → BufTy
  | .hbm, ⟨0, _⟩ => ⟨S6x128x1536, .fp8e4m3⟩
  | .hbm, ⟨1, _⟩ => ⟨S6x128x48, .i8⟩
  | .hbm, ⟨2, _⟩ => ⟨S8960x1536, .fp8e4m3⟩
  | .hbm, ⟨3, _⟩ => ⟨S8960x48, .i8⟩
  | .hbm, ⟨4, _⟩ => ⟨S8960x1536, .fp8e4m3⟩
  | .hbm, ⟨5, _⟩ => ⟨S8960x48, .i8⟩
  | .hbm, ⟨6, _⟩ => ⟨S768x1536, .fp8e4m3⟩
  | .hbm, ⟨7, _⟩ => ⟨S768x48, .i8⟩
  | .hbm, ⟨8, _⟩ => ⟨S768x8960, .fp8e4m3⟩
  | .hbm, ⟨9, _⟩ => ⟨S768x280, .i8⟩
  | .hbm, ⟨10, _⟩ => ⟨S6x128x8960, .fp8e4m3⟩
  | .hbm, ⟨11, _⟩ => ⟨S6x128x280, .i8⟩
  | .local _ .vmem, ⟨0, _⟩ => ⟨S768x1536, .fp8e4m3⟩
  | .local _ .vmem, ⟨1, _⟩ => ⟨S768x48, .i8⟩
  | .local _ .vmem, ⟨2, _⟩ => ⟨S8960x1536, .fp8e4m3⟩
  | .local _ .vmem, ⟨3, _⟩ => ⟨S8960x48, .i8⟩
  | .local _ .vmem, ⟨4, _⟩ => ⟨S8960x1536, .fp8e4m3⟩
  | .local _ .vmem, ⟨5, _⟩ => ⟨S8960x48, .i8⟩
  | .local _ .vmem, ⟨6, _⟩ => ⟨S768x8960, .fp8e4m3⟩
  | .local _ .vmem, ⟨7, _⟩ => ⟨S768x280, .i8⟩
  | _, _ => ⟨S6x128x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S768x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x48 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x48 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960x48 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x8960 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768x280 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
module

public import Idealize.ShloMosaic.PureOps.Ideal.Laws

/-! The power-of-two exponent of a group's scale: the kernel finds it by a binary search over the exponent field of an
f32, the reference by `floor (log v / log 2)`. This file shows the two agree on every extended real. -/

@[expose] public section

noncomputable section

namespace Cert.MxSwiglu

open Idealize.ShloMosaic

/-- The value of the f32 whose exponent field is the low byte of `b` and whose other bits are clear. -/
def fieldVal (b : BitVec 32) : EReal := Ideal.ofBits .f32 (b <<< 23)

/-- An exponent field from 1 to 254 stands for `2 ^ (field - 127)`. -/
theorem fieldVal_normal (f : ℕ) (h1 : 1 ≤ f) (h2 : f ≤ 254) :
    fieldVal (BitVec.ofNat 32 f) = (((2 : ℝ) ^ ((f : ℤ) - 127) : ℝ) : EReal) := by
  have key : ∀ g : Fin 255, ((BitVec.ofNat 32 g.val <<< 23).extractLsb' 31 1 == 1#1) = false
      ∧ ((BitVec.ofNat 32 g.val <<< 23).extractLsb' 23 8).toNat = g.val
      ∧ ((BitVec.ofNat 32 g.val <<< 23).extractLsb' 0 23).toNat = 0 := by decide +kernel
  obtain ⟨k1, k2, k3⟩ := key ⟨f, by omega⟩
  simp only at k1 k2 k3
  show Ideal.ieee 8 23 _ = _
  unfold Ideal.ieee
  simp only [k1, k2, k3]
  rw [if_neg (by omega), if_neg (by omega)]
  refine congrArg Real.toEReal ?_
  have e : ((f : ℤ) - (2 ^ (8 - 1) - 1) - ((23 : ℕ) : ℤ)) = ((f : ℤ) - 127) + (-23 : ℤ) := by norm_num; ring
  rw [e, zpow_add₀ (by norm_num : (2 : ℝ) ≠ 0)]
  norm_num
  ring

/-- Field 0 with no other bit set is zero. -/
theorem fieldVal_zero : fieldVal 0#32 = 0 := by
  show Ideal.ofBits .f32 (0#32 <<< 23) = 0
  rw [show (0#32 <<< 23 : BitVec 32) = 0x00000000#32 from by decide]
  simp

/-- Field 255 is infinity. -/
theorem fieldVal_top : fieldVal 255#32 = ⊤ := by
  show Ideal.ieee 8 23 (255#32 <<< 23) = ⊤
  unfold Ideal.ieee
  have k1 : ((255#32 <<< 23 : BitVec 32).extractLsb' (8 + 23) 1 == 1#1) = false := by decide +kernel
  have k2 : ((255#32 <<< 23 : BitVec 32).extractLsb' 23 8).toNat = 255 := by decide +kernel
  have k3 : ((255#32 <<< 23 : BitVec 32).extractLsb' 0 23).toNat = 0 := by decide +kernel
  simp only [k1, k2, k3]
  simp

/-- The values of the fields grow with the field. -/
theorem fieldVal_mono (f g : ℕ) (h1 : 1 ≤ f) (hfg : f ≤ g) (h2 : g ≤ 255) :
    fieldVal (BitVec.ofNat 32 f) ≤ fieldVal (BitVec.ofNat 32 g) := by
  rcases Nat.lt_or_ge g 255 with h | h
  · rw [fieldVal_normal f h1 (by omega), fieldVal_normal g (by omega) (by omega)]
    exact EReal.coe_le_coe_iff.2 (zpow_le_zpow_right₀ (by norm_num) (by omega))
  · obtain rfl : g = 255 := by omega
    exact le_of_le_of_eq le_top fieldVal_top.symm

/-! ## The binary search -/

/-- One step of the search: try the field larger by `s`. -/
def searchStep (y : EReal) (b s : BitVec 32) : BitVec 32 := if fieldVal (b + s) ≤ y then b + s else b

/-- The whole search, from the highest bit of the field to the lowest. -/
def search (y : EReal) : BitVec 32 :=
  searchStep y (searchStep y (searchStep y (searchStep y (searchStep y (searchStep y (searchStep y (searchStep y
    0#32 128#32) 64#32) 32#32) 16#32) 8#32) 4#32) 2#32) 1#32

/-- `b` is a field below which `y` does not lie, and `y` lies below the field larger by `w`. -/
def Bracket (y : EReal) (b : BitVec 32) (w : ℕ) : Prop :=
  ∃ f : ℕ, b = BitVec.ofNat 32 f ∧ f + w ≤ 256 ∧ (f = 0 ∨ fieldVal (BitVec.ofNat 32 f) ≤ y)
    ∧ (f + w ≤ 255 → y < fieldVal (BitVec.ofNat 32 (f + w)))

/-- A step halves the bracket. -/
theorem Bracket.step {y : EReal} {b : BitVec 32} {w : ℕ} (s : ℕ) (hw : w = 2 * s) (h : Bracket y b w) :
    Bracket y (searchStep y b (BitVec.ofNat 32 s)) s := by
  obtain ⟨f, rfl, hf, hlo, hhi⟩ := h
  subst hw
  unfold searchStep
  rw [← BitVec.ofNat_add]
  split
  · rename_i hle
    exact ⟨f + s, rfl, by omega, .inr hle, fun h => by
      rw [show f + s + s = f + 2 * s from by omega]; exact hhi (by omega)⟩
  · rename_i hle
    exact ⟨f, rfl, by omega, hlo, fun _ => lt_of_not_ge hle⟩

/-- The search ends at the largest field whose value `y` reaches, or at 0. -/
theorem search_bracket (y : EReal) : Bracket y (search y) 1 := by
  have h0 : Bracket y 0#32 256 := ⟨0, rfl, by omega, .inl rfl, fun h => by omega⟩
  exact (((((((h0.step 128 rfl).step 64 rfl).step 32 rfl).step 16 rfl).step 8 rfl).step 4 rfl).step 2 rfl).step 1 rfl

/-- What the kernel takes for the exponent field: the search's result, 255 from `2 ^ 127` on, and 126 in place of 0 or 255. -/
def kernelField (y : EReal) : BitVec 32 :=
  let g : BitVec 32 := if fieldVal 254#32 ≤ y then 255#32 else search y
  if g = 0#32 ∨ g = 255#32 then 126#32 else g

/-- The reference's exponent: `1 + floor (log y / log 2)` where `y` is a normal f32 below `2 ^ 127`, else 0. -/
def refExp (y : EReal) : BitVec 32 :=
  if fieldVal 1#32 ≤ y ∧ y < fieldVal 254#32 then
    1#32 + Ideal.fptosi 32 (Ideal.liftRound Int.floor (Ideal.div (Ideal.log y) (Ideal.log (2 : ℝ))))
  else 0#32

/-- Two to an integer exponent as the reference's `ldexp` gives it: zero below `2 ^ -126`, infinity above `2 ^ 127`. -/
def refPow (e : BitVec 32) : EReal :=
  if e.slt (4294967170#32) then 0 else if (127#32).slt e then ⊤ else Ideal.exp2 ((e.toInt : ℝ) : EReal)

/-- The two exponents and the two inverse scales, given the field. -/
theorem field_cases (y : EReal) : ∃ f : ℕ, 1 ≤ f ∧ f ≤ 253 ∧ kernelField y = BitVec.ofNat 32 f
    ∧ refExp y = BitVec.ofInt 32 ((f : ℤ) - 126) := by
  have v1 : fieldVal 1#32 = (((2 : ℝ) ^ ((1 : ℤ) - 127) : ℝ) : EReal) := fieldVal_normal 1 (by omega) (by omega)
  have m1 : fieldVal 1#32 ≤ fieldVal 254#32 := fieldVal_mono 1 254 (by omega) (by omega) (by omega)
  by_cases hhi : fieldVal 254#32 ≤ y
  · refine ⟨126, by omega, by omega, ?_, ?_⟩
    · unfold kernelField
      simp only [if_pos hhi]
      simp
    · unfold refExp
      rw [if_neg (fun h => absurd h.2 (not_lt.2 hhi))]
      decide
  obtain ⟨f, hs, hf, hlo, hup⟩ := search_bracket y
  have hhi' : y < fieldVal 254#32 := lt_of_not_ge hhi
  have hf253 : f ≤ 253 := by
    by_contra hc
    have := hlo.resolve_left (by omega)
    exact hhi ((fieldVal_mono 254 f (by omega) (by omega) (by omega)).trans this)
  by_cases h0 : f = 0
  · subst h0
    refine ⟨126, by omega, by omega, ?_, ?_⟩
    · unfold kernelField
      simp only [if_neg hhi, hs]
      simp
    · unfold refExp
      rw [if_neg (fun h => absurd (hup (by omega)) (not_lt.2 h.1))]
      decide
  have hlo' := hlo.resolve_left h0
  refine ⟨f, by omega, hf253, ?_, ?_⟩
  · unfold kernelField
    simp only [if_neg hhi, hs]
    rw [if_neg]
    rintro (h | h)
    · have := congrArg BitVec.toNat h
      rw [BitVec.toNat_ofNat, Nat.mod_eq_of_lt (by omega)] at this
      exact h0 (by simpa using this)
    · have := congrArg BitVec.toNat h
      rw [BitVec.toNat_ofNat, Nat.mod_eq_of_lt (by omega)] at this
      have h' : f = 255 := by simpa using this
      omega
  · unfold refExp
    have hup' := hup (by omega)
    rw [fieldVal_normal (f + 1) (by omega) (by omega)] at hup'
    rw [fieldVal_normal f (by omega) (by omega)] at hlo'
    rw [if_pos ⟨by rw [v1]; exact (EReal.coe_le_coe_iff.2 (zpow_le_zpow_right₀ (by norm_num) (by omega))).trans hlo', hhi'⟩]
    induction y using EReal.rec with
    | bot => exact absurd hlo' (by simp)
    | top => exact absurd hup' (by simp)
    | coe r =>
      have hlo := EReal.coe_le_coe_iff.1 hlo'
      have hup := EReal.coe_lt_coe_iff.1 hup'
      have hr : 0 < r := lt_of_lt_of_le (by positivity) hlo
      have hl2 : 0 < Real.log 2 := Real.log_pos (by norm_num)
      have e1 : Ideal.log (r : EReal) = ((Real.log r : ℝ) : EReal) := if_neg (not_le.2 hr)
      have e2 : Ideal.log ((2 : ℝ) : EReal) = ((Real.log 2 : ℝ) : EReal) := if_neg (by norm_num)
      rw [e1, e2, Ideal.div_coe hl2.ne', ← EReal.coe_mul]
      have e3 : Int.floor (Real.log r * (1 / Real.log 2)) = (f : ℤ) - 127 := by
        rw [mul_one_div, Int.floor_eq_iff, le_div_iff₀ hl2, div_lt_iff₀ hl2]
        constructor
        · rw [← Real.log_zpow]
          exact Real.log_le_log (by positivity) hlo
        · have : (((f : ℤ) - 127 : ℤ) : ℝ) + 1 = (((f + 1 : ℕ) : ℤ) - 127 : ℤ) := by push_cast; ring
          rw [this, ← Real.log_zpow]
          exact Real.log_lt_log hr hup
      show 1#32 + Ideal.fptosi 32 (((Int.floor (Real.log r * (1 / Real.log 2)) : ℝ)) : EReal) = _
      rw [e3]
      have e4 : Ideal.fptosi 32 (((((f : ℤ) - 127 : ℤ) : ℝ)) : EReal) = BitVec.ofInt 32 ((f : ℤ) - 127) := by
        show BitVec.ofInt 32 (max _ (min _ (if (0 : ℝ) ≤ (((f : ℤ) - 127 : ℤ) : ℝ) then ⌊(((f : ℤ) - 127 : ℤ) : ℝ)⌋ else ⌈(((f : ℤ) - 127 : ℤ) : ℝ)⌉))) = _
        rw [Int.floor_intCast, Int.ceil_intCast, ite_self]
        congr 1
        norm_num
        omega
      rw [e4, show (1#32 : BitVec 32) = BitVec.ofInt 32 1 from by decide, ← BitVec.ofInt_add]
      congr 1
      ring

/-- The kernel's field is the reference's exponent plus 126. -/
theorem kernelField_eq (y : EReal) : kernelField y = refExp y + 126#32 := by
  obtain ⟨f, -, -, h1, h2⟩ := field_cases y
  rw [h1, h2, show (126#32 : BitVec 32) = BitVec.ofInt 32 126 from by decide, ← BitVec.ofInt_add,
    show (f : ℤ) - 126 + 126 = f from by ring, BitVec.ofInt_natCast]

/-- The kernel's scale byte is the reference's. -/
theorem kernelScale_eq (y : EReal) : kernelField y + 1#32 = refExp y + 127#32 := by
  rw [kernelField_eq, BitVec.add_assoc]; rfl

/-- The kernel's inverse scale, bits built from the field, is the reference's power of two. -/
theorem kernelInv_eq (y : EReal) : fieldVal (253#32 - kernelField y) = refPow (0#32 - refExp y) := by
  obtain ⟨f, hf1, hf2, h1, h2⟩ := field_cases y
  rw [h1, h2]
  have a1 : (253#32 - BitVec.ofNat 32 f : BitVec 32) = BitVec.ofNat 32 (253 - f) := by
    rw [BitVec.ofNat_sub_ofNat_of_le _ _ (by omega) (by omega)]
  have a2 : (0#32 - BitVec.ofInt 32 ((f : ℤ) - 126) : BitVec 32) = BitVec.ofInt 32 (126 - (f : ℤ)) := by
    rw [show (126 - (f : ℤ)) = -((f : ℤ) - 126) from by ring, BitVec.ofInt_neg, BitVec.zero_sub]
  rw [a1, a2]
  have a3 : (BitVec.ofInt 32 (126 - (f : ℤ))).toInt = 126 - (f : ℤ) := by
    rw [BitVec.toInt_ofInt, Int.bmod_eq_of_le (by omega) (by omega)]
  unfold refPow
  simp only [BitVec.slt, a3]
  have a4 : (4294967170#32 : BitVec 32).toInt = -126 := by decide
  have a5 : (127#32 : BitVec 32).toInt = 127 := by decide
  rw [a4, a5]
  by_cases h : f = 253
  · subst h
    rw [if_pos (by decide)]
    exact fieldVal_zero
  · rw [if_neg (by simp; omega), if_neg (by simp; omega), fieldVal_normal (253 - f) (by omega) (by omega)]
    show _ = (((2 : ℝ).rpow ((126 - (f : ℤ) : ℤ) : ℝ) : ℝ) : EReal)
    congr 1
    rw [show (2 : ℝ).rpow ((126 - (f : ℤ) : ℤ) : ℝ) = (2 : ℝ) ^ (((126 - (f : ℤ) : ℤ)) : ℝ) from rfl, Real.rpow_intCast]
    congr 1
    omega

/-! ## The scale bytes of the inputs -/

/-- A scale byte placed in the exponent field is the reference's power of two of the byte less 127. -/
theorem scale_byte (b : BitVec 8) : fieldVal (b.setWidth 32) = refPow (b.setWidth 32 - 127#32) := by
  obtain ⟨f, hf, rfl⟩ : ∃ f : ℕ, f ≤ 255 ∧ b = BitVec.ofNat 8 f := ⟨b.toNat, by have := b.isLt; omega, by simp⟩
  have a1 : (BitVec.ofNat 8 f).setWidth 32 = BitVec.ofNat 32 f := by
    apply BitVec.eq_of_toNat_eq
    simp
    omega
  rw [a1]
  have a2 : (BitVec.ofNat 32 f - 127#32 : BitVec 32) = BitVec.ofInt 32 ((f : ℤ) - 127) := by
    rw [show (127#32 : BitVec 32) = BitVec.ofInt 32 127 from by decide, ← BitVec.ofInt_natCast, BitVec.sub_eq_add_neg, ← BitVec.ofInt_neg,
      ← BitVec.ofInt_add, ← sub_eq_add_neg]
  rw [a2]
  have a3 : (BitVec.ofInt 32 ((f : ℤ) - 127)).toInt = (f : ℤ) - 127 := by
    rw [BitVec.toInt_ofInt, Int.bmod_eq_of_le (by omega) (by omega)]
  unfold refPow
  simp only [BitVec.slt, a3]
  have a4 : (4294967170#32 : BitVec 32).toInt = -126 := by decide
  have a5 : (127#32 : BitVec 32).toInt = 127 := by decide
  rw [a4, a5]
  rcases Nat.eq_zero_or_pos f with rfl | h1
  · rw [if_pos (by decide)]
    exact fieldVal_zero
  rcases Nat.lt_or_ge f 255 with h2 | h2
  · rw [if_neg (by simp; omega), if_neg (by simp; omega), fieldVal_normal f (by omega) (by omega)]
    show _ = (((2 : ℝ).rpow (((f : ℤ) - 127 : ℤ) : ℝ) : ℝ) : EReal)
    congr 1
    rw [show (2 : ℝ).rpow (((f : ℤ) - 127 : ℤ) : ℝ) = (2 : ℝ) ^ ((((f : ℤ) - 127 : ℤ)) : ℝ) from rfl, Real.rpow_intCast]
  · obtain rfl : f = 255 := by omega
    rw [if_neg (by decide), if_pos (by decide)]
    exact fieldVal_top

end Cert.MxSwiglu

end
-- ==== Proof.WeightTile.lean ====
module

public import proofs.«01_k».proof.Proof.Gen.KernelIdeal.Skeleton
public import proofs.«01_k».proof.Proof.Exponent
public import Idealize.ShloMosaic.Lib.Pipeline.Value
public import Idealize.ShloMosaic.Lib.Pointwise

/-! The kernel dequantises a block of weights in twelve pieces of 128 columns. Each piece multiplies its codes by scales
gathered along the lanes: column `l` of piece `j` takes the scale of contraction group `4 j + l / 32`. This file shows
that the twelve pieces together hold `code * 2 ^ (scale byte - 127)`, element by element. -/

@[expose] public section

set_option maxRecDepth 16384

noncomputable section

namespace Cert.MxSwiglu

open Cert.KernelIdeal Cert.KernelIdeal.Gen Idealize.ShloMosaic Idealize.SL.Sem

/-- The value a scale byte stands for. -/
def byteVal (b : BitVec 8) : EReal := fieldVal (b.setWidth 32)

/-- The dequantised block of weights: each code times the scale of its row and of its group of 32 columns. -/
def weightVal (w : S256x1536.Idx → EReal) (s : S48x256.Idx → BitVec 8) : S256x1536.Idx → EReal :=
  fun i => w i * byteVal (s (ix2 ⟨(i 1).val / 32, by have := (i 1).isLt; simp at this; omega⟩ ⟨(i 0).val, (i 0).isLt⟩))

/-- The scale group that lane `l` reads, in the words the kernel computes it with: `b` plus the floor of `l / 32`,
with 128 added when negative. -/
def groupWord (b l : BitVec 32) : BitVec 32 :=
  let q := IntOp.divsi .vector l 32#32
  let sgn := (IntOp.cmpi .sgt l 0#32).setWidth 32 - (IntOp.cmpi .slt l 0#32).setWidth 32
  let fl := Scalar.select (IntOp.cmpi .ne sgn (Scalar.subi (Scalar.extui (Scalar.cmpi .sgt 32#32 0#32)) (Scalar.extui (Scalar.cmpi .slt 32#32 0#32)))
    &&& IntOp.cmpi .ne (IntOp.remsi .vector l 32#32) 0#32) (q - 1#32) q
  Scalar.select (IntOp.cmpi .slt (b + fl) 0#32) (b + fl + 128#32) (b + fl)

/-- Lane `l` of piece `j` reads group `4 j + l / 32`. -/
theorem groupWord_eq : ∀ (j : Fin 12) (l : Fin 128),
    (groupWord (BitVec.ofNat 32 (4 * j.val)) (BitVec.ofNat 32 l.val)).toNat = 4 * j.val + l.val / 32 := by decide +kernel

/-- The group every lane reads, as a vector. -/
def groupIdx (b : BitVec 32) : IVec S256x128 32 := fun i => groupWord b (iota .tc S256x128 32 [1] iota_S256x128_d1_w32 i)

/-- The padded, transposed scales read at a group below 48: the byte's value. -/
theorem scaleT_apply (x : Vec Ideal S48x256 .i8) (r : Fin 256) (q : Fin 128) (hq : q.val < 48) :
    k0_pay424 x (ix2 r q) = byteVal (x (ix2 ⟨q.val, hq⟩ r)) := by
  unfold k0_pay424
  dsimp only
  rw [shapeCast_self, transpose_apply _ _ _ _ (ix2 (⟨q.val, q.isLt⟩ : Fin 128) r) (by intro b; fin_cases b <;> rfl)]
  exact concatenate_pair_apply_left (t := S128x256) (s₁ := S48x256) (s₂ := S80x256) _ _ _ _ _ rfl
    (ix2 (⟨q.val, hq⟩ : Fin 48) r) (by intro b; fin_cases b <;> rfl)

/-- A piece of the dequantised block: codes times gathered scales. -/
def weightTile (b : BitVec 32) (s : FVec Ideal S256x128 .bf16) (w : Vec Ideal S256x128 .fp8e4m3) : FVec Ideal S256x128 .bf16 :=
  shapeCast S256x128 (mulf (extf .bf16 w bitsLt_fp8e4m3_bf16)
    (truncf .bf16 (dynamicGather 1 (extf .f32 s bitsLt_bf16_f32)
      (shapeCast S256x128 (shapeCast S256x128x1 (groupIdx b) shapeCasts_S256x128_S256x128x1) shapeCasts_S256x128x1_S256x128))
      bitsLt_bf16_f32)) shapeCasts_S256x128_S256x128

/-- Piece `j` at row `r`, lane `l`: the code times the scale byte of group `4 j + l / 32`. -/
theorem weightTile_apply (j : Fin 12) (x : Vec Ideal S48x256 .i8) (w : Vec Ideal S256x128 .fp8e4m3) (r : Fin 256) (l : Fin 128) :
    weightTile (BitVec.ofNat 32 (4 * j.val)) (k0_pay424 x) w (ix2 r l)
      = (w (ix2 r l) : EReal) * byteVal (x (ix2 ⟨4 * j.val + l.val / 32, by omega⟩ r)) := by
  unfold weightTile
  rw [shapeCast_self, shapeCast_shapeCast]
  show (w (ix2 r l) : EReal) * dynamicGather 1 (k0_pay424 x) (groupIdx _) (ix2 r l) = _
  refine congrArg (fun e : EReal => (w (ix2 r l) : EReal) * e) ?_
  have hg : (groupIdx (BitVec.ofNat 32 (4 * j.val)) (ix2 r l)).toNat = 4 * j.val + l.val / 32 := by
    unfold groupIdx
    rw [iota_single_apply]
    exact groupWord_eq j l
  rw [← scaleT_apply x r ⟨4 * j.val + l.val / 32, by omega⟩ (by show 4 * j.val + l.val / 32 < 48; omega)]
  unfold dynamicGather
  refine congrArg (k0_pay424 x) (funext fun b => ?_)
  fin_cases b
  · rfl
  · refine Fin.ext ?_
    show (groupIdx (BitVec.ofNat 32 (4 * j.val)) (ix2 r l)).toNat % 128 = _
    rw [hg]
    exact Nat.mod_eq_of_lt (by omega)

/-- A piece stored at columns `128 j …` restricts the dequantised block. -/
theorem weightTile_restricts (j : Fin 12) (x : Vec Ideal S48x256 .i8) (w : Vec Ideal S256x1536 .fp8e4m3) (off : Fin 2 → ℕ)
    (hoff : off = ![0, 128 * j.val]) (inb : ∀ a, off a + S256x128.size a ≤ S256x1536.size a) (k : S256x128.Idx) :
    weightTile (BitVec.ofNat 32 (4 * j.val)) (k0_pay424 x) (View.ld w (Rect.unit (s := S256x1536) off S256x128.size inb)) k
      = weightVal w x ((Rect.unit (s := S256x1536) off S256x128.size inb).emb k) := by
  subst hoff
  obtain ⟨r, l, rfl⟩ : ∃ (r : Fin 256) (l : Fin 128), k = ix2 r l := ⟨k 0, k 1, by funext b; fin_cases b <;> rfl⟩
  rw [weightTile_apply]
  unfold weightVal
  refine congrArg₂ (fun a b : EReal => a * b) rfl (congrArg byteVal (congrArg x (funext fun b => ?_)))
  fin_cases b
  · refine Fin.ext ?_
    show 4 * j.val + l.val / 32 = (128 * j.val + 1 * l.val) / 32
    omega
  · refine Fin.ext ?_
    show r.val = 0 + 1 * r.val
    omega

/-- The twelve pieces written over a scratch, read back whole: the dequantised block. -/
theorem readCov_weight {sig : RefSig} {κ : Kind} {sp : Space} (v : View sig κ sp S256x1536 .bf16)
    (w : Vec Ideal S256x1536 .fp8e4m3) (x : Vec Ideal S48x256 .i8)
    (P0 P1 P2 P3 P4 P5 P6 P7 P8 P9 P10 P11 : FVec Ideal S256x128 .bf16)
    (h0 : P0 = weightTile 0#32 (k0_pay424 x) (View.ld w (Rect.unit ![0, 0] ![256, 128] inb_S256x1536_S256x128_0_0)))
    (h1 : P1 = weightTile 4#32 (k0_pay424 x) (View.ld w (Rect.unit ![0, 128] ![256, 128] inb_S256x1536_S256x128_0_128)))
    (h2 : P2 = weightTile 8#32 (k0_pay424 x) (View.ld w (Rect.unit ![0, 256] ![256, 128] inb_S256x1536_S256x128_0_256)))
    (h3 : P3 = weightTile 12#32 (k0_pay424 x) (View.ld w (Rect.unit ![0, 384] ![256, 128] inb_S256x1536_S256x128_0_384)))
    (h4 : P4 = weightTile 16#32 (k0_pay424 x) (View.ld w (Rect.unit ![0, 512] ![256, 128] inb_S256x1536_S256x128_0_512)))
    (h5 : P5 = weightTile 20#32 (k0_pay424 x) (View.ld w (Rect.unit ![0, 640] ![256, 128] inb_S256x1536_S256x128_0_640)))
    (h6 : P6 = weightTile 24#32 (k0_pay424 x) (View.ld w (Rect.unit ![0, 768] ![256, 128] inb_S256x1536_S256x128_0_768)))
    (h7 : P7 = weightTile 28#32 (k0_pay424 x) (View.ld w (Rect.unit ![0, 896] ![256, 128] inb_S256x1536_S256x128_0_896)))
    (h8 : P8 = weightTile 32#32 (k0_pay424 x) (View.ld w (Rect.unit ![0, 1024] ![256, 128] inb_S256x1536_S256x128_0_1024)))
    (h9 : P9 = weightTile 36#32 (k0_pay424 x) (View.ld w (Rect.unit ![0, 1152] ![256, 128] inb_S256x1536_S256x128_0_1152)))
    (h10 : P10 = weightTile 40#32 (k0_pay424 x) (View.ld w (Rect.unit ![0, 1280] ![256, 128] inb_S256x1536_S256x128_0_1280)))
    (h11 : P11 = weightTile 44#32 (k0_pay424 x) (View.ld w (Rect.unit ![0, 1408] ![256, 128] inb_S256x1536_S256x128_0_1408))) :
    v.readCov (Val := Elt Ideal) [⟨Rect.unit ![0, 1408] ![256, 128] inb_S256x1536_S256x128_0_1408, P11⟩,
      ⟨Rect.unit ![0, 1280] ![256, 128] inb_S256x1536_S256x128_0_1280, P10⟩,
      ⟨Rect.unit ![0, 1152] ![256, 128] inb_S256x1536_S256x128_0_1152, P9⟩,
      ⟨Rect.unit ![0, 1024] ![256, 128] inb_S256x1536_S256x128_0_1024, P8⟩,
      ⟨Rect.unit ![0, 896] ![256, 128] inb_S256x1536_S256x128_0_896, P7⟩,
      ⟨Rect.unit ![0, 768] ![256, 128] inb_S256x1536_S256x128_0_768, P6⟩,
      ⟨Rect.unit ![0, 640] ![256, 128] inb_S256x1536_S256x128_0_640, P5⟩,
      ⟨Rect.unit ![0, 512] ![256, 128] inb_S256x1536_S256x128_0_512, P4⟩,
      ⟨Rect.unit ![0, 384] ![256, 128] inb_S256x1536_S256x128_0_384, P3⟩,
      ⟨Rect.unit ![0, 256] ![256, 128] inb_S256x1536_S256x128_0_256, P2⟩,
      ⟨Rect.unit ![0, 128] ![256, 128] inb_S256x1536_S256x128_0_128, P1⟩,
      ⟨Rect.unit ![0, 0] ![256, 128] inb_S256x1536_S256x128_0_0, P0⟩]
      (Rect.unit ![0, 0] ![256, 1536] inb_S256x1536_S256x1536_0_0).toLoadRect = weightVal w x := by
  subst h0 h1 h2 h3 h4 h5 h6 h7 h8 h9 h10 h11
  rw [View.readCov_eq_canon']
  funext k
  have hk : (Rect.unit (s := S256x1536) ![0, 0] ![256, 1536] inb_S256x1536_S256x1536_0_0).toLoadRect.idx k = k := by
    funext b
    refine Fin.ext ?_
    fin_cases b
    · show 0 + 1 * (k 0).val = (k 0).val; omega
    · show 0 + 1 * (k 1).val = (k 1).val; omega
  rw [hk]
  refine View.canon_apply_of_pieces (Val := Elt Ideal) (S := S256x1536) (e := .bf16) (weightVal w x) _ ?_ k ?_
  · simp only [List.forall_mem_cons, List.not_mem_nil, false_imp_iff, implies_true, and_true]
    exact ⟨weightTile_restricts 11 x w _ rfl _, weightTile_restricts 10 x w _ rfl _, weightTile_restricts 9 x w _ rfl _,
      weightTile_restricts 8 x w _ rfl _, weightTile_restricts 7 x w _ rfl _, weightTile_restricts 6 x w _ rfl _,
      weightTile_restricts 5 x w _ rfl _, weightTile_restricts 4 x w _ rfl _, weightTile_restricts 3 x w _ rfl _,
      weightTile_restricts 2 x w _ rfl _, weightTile_restricts 1 x w _ rfl _, weightTile_restricts 0 x w _ rfl _⟩
  · have h0 := (k 0).isLt
    have h1 := (k 1).isLt
    simp at h0 h1
    simp only [List.mem_cons, List.not_mem_nil, or_false, exists_eq_or_imp, exists_eq_left, Rect.mem_set_unit, Fin.forall_fin_two]
    simp
    omega

end Cert.MxSwiglu
-- ==== Proof.XTile.lean ====
module

public import proofs.«01_k».proof.Proof.WeightTile

/-! The kernel dequantises the activations once, into a transposed scratch, in 288 pieces of 32 rows and 128 columns. A
piece multiplies 32 rows of a transposed 128 by 128 tile of codes by one row of scales. This file reads one piece at an
element: it is the element of one transposed array of values. -/

@[expose] public section

set_option maxRecDepth 16384

noncomputable section

namespace Cert.MxSwiglu

open Cert.KernelIdeal Cert.KernelIdeal.Gen Idealize.ShloMosaic Idealize.SL.Sem

/-- The dequantised activations, transposed: row `k` of the contraction, column `n` of the tokens. The scale byte of
token `n` and group `k / 32` lies in a table cut in batches of 128 tokens. -/
def xVal (x : S768x1536.Idx → EReal) (s : S6x48x128.Idx → BitVec 8) : S1536x768.Idx → EReal :=
  fun i => x (ix2 ⟨(i 1).val, (i 1).isLt⟩ ⟨(i 0).val, (i 0).isLt⟩)
    * byteVal (s (ix3 ⟨(i 1).val / 128, by have := (i 1).isLt; simp at this; omega⟩
        ⟨(i 0).val / 32, by have := (i 0).isLt; simp at this; omega⟩ ⟨(i 1).val % 128, by omega⟩))

/-- A batch of scales read at group `q`, token `l`: the byte's value. -/
theorem scaleRow_apply (s : Vec Ideal S1x48x128 .i8) (q : Fin 48) (l : Fin 128) :
    k0_pay3 (F := Ideal) s (ix2 q l) = byteVal (s (ix3 0 q l)) := by
  have h : ∀ i, k0_pay3 (F := Ideal) s i = byteVal (shapeCast S48x128 s shapeCasts_S1x48x128_S48x128 i) := fun i => rfl
  rw [h]
  refine congrArg byteVal ((shapeCast_dropUnit_apply ![48, 128] s _ _).trans (congrArg s (funext fun a => ?_)))
  fin_cases a <;> rfl

/-- A piece stored at row `R` and column `C` restricts the dequantised activations. Its codes are rows `o1 …` of the
transposed tile at `(r0, c0)`; its scales are row `o2` of batch `b0`. -/
theorem xTile_restricts (x : Vec Ideal S768x1536 .fp8e4m3) (s : Vec Ideal S6x48x128 .i8) (r0 c0 b0 o1 o2 R C : ℕ)
    (inbx : ∀ a, ![r0, c0] a + S128x128.size a ≤ S768x1536.size a)
    (inbs : ∀ a, ![b0, 0, 0] a + S1x48x128.size a ≤ S6x48x128.size a)
    (inb : ∀ a, ![R, C] a + S32x128.size a ≤ S1536x768.size a)
    (hs1 : S128x128.Slices ![o1, 0] S32x128) (hs2 : S48x128.Slices ![o2, 0] S1x128)
    (hR : R = c0 + o1) (hC : C = r0) (hb : 128 * b0 = r0) (ho : 32 * o2 = R) (y : S32x128.Idx) :
    shapeCast S32x128 (mulf
        (extractStridedSlice S32x128 ![o1, 0] (transpose S128x128 [1, 0] (extf .bf16 (shapeCast S128x128
          (View.ld x (Rect.unit (s := S768x1536) ![r0, c0] S128x128.size inbx)) shapeCasts_S128x128_S128x128 : FVec Ideal S128x128 .fp8e4m3) bitsLt_fp8e4m3_bf16 : FVec Ideal S128x128 .bf16)
          transposes_S128x128_p1_0_S128x128) hs1)
        (broadcastTo S32x128 (extractStridedSlice S1x128 ![o2, 0]
          (k0_pay3 (F := Ideal) (View.ld s (Rect.unit (s := S6x48x128) ![b0, 0, 0] S1x48x128.size inbs))) hs2) broadcasts_S1x128_S32x128)
        : FVec Ideal S32x128 .bf16) shapeCasts_S32x128_S32x128 y
      = xVal x s ((Rect.unit (s := S1536x768) ![R, C] S32x128.size inb).emb y) := by
  obtain ⟨i, l, rfl⟩ : ∃ (i : Fin 32) (l : Fin 128), y = ix2 i l := ⟨y 0, y 1, by funext b; fin_cases b <;> rfl⟩
  have hR0 : R + 32 ≤ 1536 := inb 0
  have ho1 : o1 + 32 ≤ 128 := hs1.2 0
  have ho2 : o2 + 1 ≤ 48 := hs2.2 0
  have hb0 : b0 + 1 ≤ 6 := inbs 0
  rw [shapeCast_self]
  have hx : shapeCast S128x128 (View.ld x (Rect.unit (s := S768x1536) ![r0, c0] S128x128.size inbx)) shapeCasts_S128x128_S128x128
      = View.ld x (Rect.unit (s := S768x1536) ![r0, c0] S128x128.size inbx) := shapeCast_self (s := S128x128) _ _
  rw [hx]
  rw [ValueIdx.mulf_apply]
  rw [extractStridedSlice_apply _ _ hs1 (ix2 i l) (ix2 (⟨o1 + i.val, by omega⟩ : Fin 128) l) (by
      intro a; fin_cases a
      · rfl
      · show l.val = 0 + l.val; omega),
    transpose_apply (s := S128x128) (t := S128x128) _ _ _ _ (ix2 (l : Fin 128) (⟨o1 + i.val, by omega⟩ : Fin 128)) (by intro a; fin_cases a <;> rfl),
    broadcastTo_apply _ _ (ix2 i l) (ix2 (0 : Fin 1) l) (by intro a; fin_cases a <;> rfl),
    extractStridedSlice_apply _ _ hs2 (ix2 (0 : Fin 1) l) (ix2 (⟨o2, by omega⟩ : Fin 48) l) (by
      intro a; fin_cases a
      · rfl
      · show l.val = 0 + l.val; omega)]
  unfold xVal
  refine congrArg₂ (fun a b : EReal => a * b) ?_ ?_
  · show x _ = x _
    refine congrArg x (funext fun a => Fin.ext ?_)
    fin_cases a
    · show r0 + 1 * l.val = C + 1 * l.val; omega
    · show c0 + 1 * (o1 + i.val) = R + 1 * i.val; omega
  · rw [scaleRow_apply]
    refine congrArg byteVal (congrArg s (funext fun a => Fin.ext ?_))
    fin_cases a
    · show b0 + 1 * 0 = (C + 1 * l.val) / 128; omega
    · show 0 + 1 * o2 = (R + 1 * i.val) / 32; omega
    · show 0 + 1 * l.val = (C + 1 * l.val) % 128; omega

end Cert.MxSwiglu
-- ==== Proof.Block.lean ====
module

public import proofs.«01_k».proof.Proof.Exponent
public import proofs.«01_k».proof.Proof.Gen.KernelIdeal.Skeleton
public import Idealize.ShloMosaic.Lib.Pipeline.Value
public import Idealize.ShloMosaic.Lib.Pointwise

/-! One block of the kernel, from the two dequantised weight blocks and the dequantised activations: the gate and up
products, their SwiGLU, and the quantisation of the result in groups of 32 features. -/

@[expose] public section

set_option maxRecDepth 16384

noncomputable section

namespace Cert.MxSwiglu

open Idealize.ShloMosaic

/-- SwiGLU of a gate and an up value: `gate * sigmoid gate * up`. -/
def swiglu (gate up : EReal) : EReal := gate * Ideal.logistic gate * up

/-- The largest magnitude in a group of 32 values, divided by the largest code (as a product with the reciprocal). -/
def groupMax (h : Fin 32 → EReal) : EReal :=
  (Finset.univ.fold max (Ideal.ofBits .f32 0xFF800000#32) fun k => max (h k) (-(h k))) * Ideal.ofBits .f32 0x3B124925#32

/-- A value cut to the range of the codes. -/
def clip (v : EReal) : EReal := min (Ideal.ofBits .f32 0x43E00000#32) (max (Ideal.ofBits .f32 0xC3E00000#32) v)

section
open Cert.KernelIdeal Cert.KernelIdeal.Gen

/-- The activated value of feature `f` of the block and token `n`. -/
def blockVal (g u : S256x1536.Idx → EReal) (x : S1536x768.Idx → EReal) (f : Fin 256) (n : Fin 768) : EReal :=
  swiglu (∑ k : Fin 1536, g (ix2 f k) * x (ix2 k n)) (∑ k : Fin 1536, u (ix2 f k) * x (ix2 k n))

/-- The scaled magnitude of group `q` of the block and token `n`. -/
def blockMax (g u : S256x1536.Idx → EReal) (x : S1536x768.Idx → EReal) (q : Fin 8) (n : Fin 768) : EReal :=
  groupMax fun k => blockVal g u x ⟨q.val * 32 + k.val, by omega⟩ n

/-- A matrix product of the kernel at an element. -/
theorem gate_apply (g : FVec Ideal S256x1536 .bf16) (x : FVec Ideal S1536x768 .bf16) (f : Fin 256) (n : Fin 768) :
    (k0_pay494 (F := Ideal) g x (ix2 f n) : EReal) = ∑ k : Fin 1536, (g (ix2 f k) : EReal) * x (ix2 k n) := by
  pointwise [k0_pay494]
  try simp

/-- The activated values, cut in groups of 32 features, at an element. -/
theorem act_apply (g u : FVec Ideal S256x1536 .bf16) (x : FVec Ideal S1536x768 .bf16) (q : Fin 8) (k : Fin 32) (n : Fin 768) :
    (k0_pay495 (F := Ideal) (k0_pay494 (F := Ideal) g x) u x (ix3 q k n) : EReal) = blockVal g u x ⟨q.val * 32 + k.val, by omega⟩ n := by
  unfold blockVal
  rw [← gate_apply]
  generalize k0_pay494 (F := Ideal) g x = G
  unfold swiglu Ideal.logistic
  pointwise [k0_pay495]
  rw [zero_sub]

/-- The scaled group magnitudes at an element. -/
theorem max_apply (g u : FVec Ideal S256x1536 .bf16) (x : FVec Ideal S1536x768 .bf16) (q : Fin 8) (n : Fin 768) :
    (k0_pay496 (F := Ideal) (k0_pay494 (F := Ideal) g x) u x (ix2 q n) : EReal) = blockMax g u x q n := by
  unfold blockMax groupMax
  simp only [← act_apply]
  unfold k0_pay496
  generalize k0_pay495 (F := Ideal) (k0_pay494 (F := Ideal) g x) u x = h
  pointwise
  rfl

/-- One step of the search for the exponent field, on a whole vector. -/
def stepVec (y : FVec Ideal S8x768 .f32) (b : IVec S8x768 32) (s : BitVec 32) : IVec S8x768 32 :=
  select (cmpf .oge y (bitcastToFloat .f32 (shli (addi b (broadcast S8x768 s)) (broadcast S8x768 23#32))))
    (addi b (broadcast S8x768 s)) b

/-- A choice by a comparison is the choice by the order. -/
theorem select_oge {α : Type} (x y : EReal) (a b : α) : Scalar.select (Ideal.cmp .oge x y) a b = if y ≤ x then a else b := by
  unfold Scalar.select Ideal.cmp
  by_cases h : y ≤ x <;> simp [h]

/-- A step at an element. -/
theorem stepVec_apply (y : FVec Ideal S8x768 .f32) (b : IVec S8x768 32) (s : BitVec 32) (i : S8x768.Idx) :
    stepVec y b s i = searchStep (y i) (b i) s := select_oge _ _ _ _

/-- The first four steps, as the kernel writes them. -/
theorem steps_first (G : FVec Ideal S256x768 .f32) (u : FVec Ideal S256x1536 .bf16) (x : FVec Ideal S1536x768 .bf16) :
    k0_pay497 (F := Ideal) G u x = stepVec (k0_pay496 (F := Ideal) G u x) (stepVec (k0_pay496 (F := Ideal) G u x)
      (stepVec (k0_pay496 (F := Ideal) G u x) (broadcast S8x768 0#32) 128#32) 64#32) 32#32 := rfl

/-- The rest of the search and the choice of the field, as the kernel writes them. -/
theorem steps_last (y : FVec Ideal S8x768 .f32) (a b : IVec S8x768 32) (v : FVec Ideal S8x768 .f32) :
    k0_pay500 (F := Ideal) y a b v = fun i =>
      let g := Scalar.select (Ideal.cmp .oge (y i) (Ideal.ofBits .f32 0x7F000000#32)) 255#32
        (stepVec y (stepVec y (stepVec y (stepVec y (select (cmpf .oge y v) b a) 8#32) 4#32) 2#32) 1#32 i)
      Scalar.select (IntOp.ori (IntOp.cmpi .eq g 0#32) (IntOp.cmpi .eq g 255#32)) 126#32 g := rfl

/-- The field the kernel finds at an element. -/
theorem field_apply (G : FVec Ideal S256x768 .f32) (u : FVec Ideal S256x1536 .bf16) (x : FVec Ideal S1536x768 .bf16) (i : S8x768.Idx) :
    k0_pay500 (F := Ideal) (k0_pay496 (F := Ideal) G u x) (k0_pay497 (F := Ideal) G u x) (k0_pay498 (F := Ideal) G u x)
      (k0_pay499 (F := Ideal) G u x) i = kernelField (k0_pay496 (F := Ideal) G u x i) := by
  have h16 : select (cmpf .oge (k0_pay496 (F := Ideal) G u x) (k0_pay499 (F := Ideal) G u x)) (k0_pay498 (F := Ideal) G u x) (k0_pay497 (F := Ideal) G u x)
      = stepVec (k0_pay496 (F := Ideal) G u x) (k0_pay497 (F := Ideal) G u x) 16#32 := rfl
  rw [steps_last, h16, steps_first]
  generalize k0_pay496 (F := Ideal) G u x = y
  simp only [stepVec_apply, select_oge]
  unfold kernelField
  have hs : ∀ g : BitVec 32, Scalar.select (IntOp.ori (IntOp.cmpi .eq g 0#32) (IntOp.cmpi .eq g 255#32)) 126#32 g
      = if g = 0#32 ∨ g = 255#32 then 126#32 else g := by
    intro g
    unfold Scalar.select IntOp.ori IntOp.cmpi
    by_cases h0 : g = 0#32
    · simp [h0]
    · by_cases h1 : g = 255#32
      · simp [h1]
      · have e0 : (g == 0#32) = false := by simpa using h0
        have e1 : (g == 255#32) = false := by simpa using h1
        simp [e0, e1, h0, h1]
  rw [hs]
  rfl
/-- The value a block stores for token `n` and feature `f`: the activated value over its group's scale, clipped. -/
def blockCode (g u : S256x1536.Idx → EReal) (x : S1536x768.Idx → EReal) (n : Fin 768) (f : Fin 256) : EReal :=
  clip (blockVal g u x f n * fieldVal (253#32 - kernelField (blockMax g u x ⟨f.val / 32, by omega⟩ n)))

/-- The scale byte a block stores for group `q` and token `n`. -/
def blockScale (g u : S256x1536.Idx → EReal) (x : S1536x768.Idx → EReal) (q : Fin 8) (n : Fin 768) : BitVec 8 :=
  (kernelField (blockMax g u x q n) + 1#32).setWidth 8

/-- The codes at an element, from the activated values and the exponent fields. -/
theorem code_apply (H : FVec Ideal S8x32x768 .f32) (y : FVec Ideal S8x768 .f32) (a b : IVec S8x768 32) (v : FVec Ideal S8x768 .f32)
    (n : Fin 768) (f : Fin 256) :
    (k0_pay502 (F := Ideal) H (k0_pay501 (F := Ideal) y a b v) (ix2 n f) : EReal)
      = clip ((H (ix3 ⟨f.val / 32, by omega⟩ ⟨f.val % 32, by omega⟩ n) : EReal)
          * fieldVal (253#32 - k0_pay500 (F := Ideal) y a b v (ix2 ⟨f.val / 32, by omega⟩ n))) := by
  unfold k0_pay501
  generalize k0_pay500 (F := Ideal) y a b v = e
  unfold clip
  pointwise [k0_pay502]
  rfl

/-- What a block stores as codes. -/
theorem codes_eq (g u : FVec Ideal S256x1536 .bf16) (x : FVec Ideal S1536x768 .bf16) (G : FVec Ideal S256x768 .f32)
    (hG : G = k0_pay494 (F := Ideal) g x) :
    k0_pay502 (F := Ideal) (k0_pay495 (F := Ideal) G u x) (k0_pay501 (F := Ideal) (k0_pay496 (F := Ideal) G u x)
      (k0_pay497 (F := Ideal) G u x) (k0_pay498 (F := Ideal) G u x) (k0_pay499 (F := Ideal) G u x))
      = fun i => blockCode g u x ⟨(i 0).val, (i 0).isLt⟩ ⟨(i 1).val, (i 1).isLt⟩ := by
  subst hG
  funext i
  obtain ⟨n, f, rfl⟩ : ∃ (n : Fin 768) (f : Fin 256), i = ix2 n f := ⟨i 0, i 1, by funext b; fin_cases b <;> rfl⟩
  rw [code_apply, field_apply, max_apply, act_apply]
  have hf : (⟨f.val / 32 * 32 + f.val % 32, by omega⟩ : Fin 256) = f := Fin.ext (by show f.val / 32 * 32 + f.val % 32 = f.val; omega)
  show clip (blockVal g u x ⟨f.val / 32 * 32 + f.val % 32, _⟩ n * _) = _
  rw [hf]
  rfl

/-- The scale bytes of the block, all tokens in one row. -/
theorem scaleRows_apply (g u : FVec Ideal S256x1536 .bf16) (x : FVec Ideal S1536x768 .bf16) (G : FVec Ideal S256x768 .f32)
    (hG : G = k0_pay494 (F := Ideal) g x) (q : Fin 8) (n : Fin 768) :
    k0_pay503 (k0_pay500 (F := Ideal) (k0_pay496 (F := Ideal) G u x) (k0_pay497 (F := Ideal) G u x)
      (k0_pay498 (F := Ideal) G u x) (k0_pay499 (F := Ideal) G u x)) (ix2 q n) = blockScale g u x q n := by
  subst hG
  unfold k0_pay503 blockScale
  show (k0_pay500 (F := Ideal) _ _ _ _ (ix2 q n) + 1#32).setWidth 8 = _
  rw [field_apply, max_apply]

/-- A batch of the stored scales restricts the table of scales cut in batches of 128 tokens. -/
theorem scalePiece_restricts (g u : FVec Ideal S256x1536 .bf16) (x : FVec Ideal S1536x768 .bf16) (V : IVec S8x768 8)
    (hV : ∀ (q : Fin 8) (n : Fin 768), V (ix2 q n) = blockScale g u x q n) (b o : ℕ)
    (inb : ∀ a, ![b, 0, 0] a + S1x8x128.size a ≤ S6x8x128.size a) (hs : S8x768.Slices ![0, o] S8x128) (ho : o = 128 * b)
    (y : S1x8x128.Idx) :
    shapeCast S1x8x128 (extractStridedSlice S8x128 ![0, o] V hs) shapeCasts_S8x128_S1x8x128 y
      = (fun i : S6x8x128.Idx => blockScale g u x ⟨(i 1).val, (i 1).isLt⟩
          ⟨128 * (i 0).val + (i 2).val, by have := (i 0).isLt; have := (i 2).isLt; simp at *; omega⟩)
        ((Rect.unit (s := S6x8x128) ![b, 0, 0] S1x8x128.size inb).emb y) := by
  obtain ⟨z, q, l, rfl⟩ : ∃ (z : Fin 1) (q : Fin 8) (l : Fin 128), y = ix3 z q l := ⟨y 0, y 1, y 2, by funext b; fin_cases b <;> rfl⟩
  have ho2 : o + 128 ≤ 768 := hs.2 1
  rw [shapeCast_apply (s := S8x128) (t := S1x8x128) _ _ (ix3 z q l) (ix2 q l) (by
      rw [rowMajor_val2 _ 128 rfl, rowMajor_val3 _ 1024 128 rfl rfl]
      show q.val * 128 + l.val = z.val * 1024 + q.val * 128 + l.val
      omega),
    extractStridedSlice_apply _ _ hs (ix2 q l) (ix2 (q : Fin 8) (⟨o + l.val, by omega⟩ : Fin 768)) (by
      intro a; fin_cases a
      · show q.val = 0 + q.val; omega
      · rfl), hV]
  refine congrArg₂ (blockScale g u x) (Fin.ext ?_) (Fin.ext ?_)
  · show q.val = 0 + 1 * q.val; omega
  · show o + l.val = 128 * (b + 1 * z.val) + (0 + 1 * l.val); omega
end

end Cert.MxSwiglu
-- ==== Proof.KernelScratch.lean ====
module

public import proofs.«01_k».proof.Proof.Gen.KernelIdeal.Frame
public import proofs.«01_k».proof.Proof.XTile
public import proofs.«01_k».proof.Proof.Block

/-! What the kernel's body leaves at one grid point, from the blocks it is given. At the first point the body also fills
the scratch of dequantised activations; at the other points it reads what the scratch holds. -/

@[expose] public section

set_option maxRecDepth 16384

noncomputable section

namespace Cert.MxSwiglu

open Cert.KernelIdeal Cert.KernelIdeal.Gen Idealize.ShloMosaic Idealize.ShloMosaic.TcCoe Idealize.SL.Sem Idealize.ShloMosaic.Tactic

variable (c : Dev nD) (t : Fin cfg0.N) (x0 : Vec Ideal S768x1536 .fp8e4m3) (x1 : Vec Ideal S6x48x128 .i8)
  (x2 : Vec Ideal S256x1536 .fp8e4m3) (x3 : Vec Ideal S48x256 .i8) (x4 : Vec Ideal S256x1536 .fp8e4m3) (x5 : Vec Ideal S48x256 .i8)
  (xs : Vec Ideal S1536x768 .bf16)

/-- The codes one grid point stores. -/
def pointCodes (x : S1536x768.Idx → EReal) : S768x256.Idx → EReal := fun i =>
  blockCode (weightVal x2 x3) (weightVal x4 x5) x ⟨(i 0).val, (i 0).isLt⟩ ⟨(i 1).val, (i 1).isLt⟩

/-- The scale bytes one grid point stores. -/
def pointScale (x : S1536x768.Idx → EReal) : S6x8x128.Idx → BitVec 8 := fun i =>
  blockScale (weightVal x2 x3) (weightVal x4 x5) x ⟨(i 1).val, (i 1).isLt⟩
    ⟨128 * (i 0).val + (i 2).val, by have := (i 0).isLt; have := (i 2).isLt; simp at *; omega⟩

/-- The run of the body at the first point. -/
abbrev runA (h : t.val % 35 = 0) := kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) x0 x1 x2 x3 x4 x5

/-- The run of the body at a later point. -/
abbrev runB (h : ¬t.val % 35 = 0) := kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h' => h ((hcond0_0 t).mp h')) x0 x1 x2 x3 x4 x5 xs

set_option maxHeartbeats 4000000 in
/-- The first point leaves the dequantised activations in the scratch. -/
theorem scratchA (h : t.val % 35 = 0) : View.canon (runA c t x0 x1 x2 x3 x4 x5 h).2.2.1 = xVal x0 x1 := by
  funext y
  refine View.canon_apply_of_pieces (Val := Elt Ideal) (S := S1536x768) (e := .bf16) (xVal x0 x1) _ ?_ y
    (scover0_A_0 (F := Ideal) c _ _ _ _ _ _ _ _ _ _ _ _ _ _ _ _ _ _ _ _ _ _ _ _ _ _ _ _ _ _ y)
  unfold runA kernelRun0_A
  dsimp only
  sl_unfold_words
  simp only [View.readAt_eq_ld, (hs0_0 t).read_unread, (hs0_1 t).read_unread]
  simp only [List.forall_mem_cons, List.not_mem_nil, false_imp_iff, implies_true, and_true]
  repeat' apply And.intro
  all_goals
    intro z
    exact xTile_restricts x0 x1 _ _ _ _ _ _ _ _ _ _ (by decide) (by decide) (by decide) (by decide) (by decide) (by decide) z

end Cert.MxSwiglu
-- ==== Proof.KernelPoint.lean ====
module

public import proofs.«01_k».proof.Proof.KernelScratch

/-! The two results that the kernel's body leaves at one grid point. -/

@[expose] public section

set_option maxRecDepth 16384

noncomputable section

namespace Cert.MxSwiglu

open Cert.KernelIdeal Cert.KernelIdeal.Gen Idealize.ShloMosaic Idealize.ShloMosaic.TcCoe Idealize.SL.Sem Idealize.ShloMosaic.Tactic

variable (c : Dev nD) (t : Fin cfg0.N) (x0 : Vec Ideal S768x1536 .fp8e4m3) (x1 : Vec Ideal S6x48x128 .i8)
  (x2 : Vec Ideal S256x1536 .fp8e4m3) (x3 : Vec Ideal S48x256 .i8) (x4 : Vec Ideal S256x1536 .fp8e4m3) (x5 : Vec Ideal S48x256 .i8)
  (xs : Vec Ideal S1536x768 .bf16)

/-- A load of the whole block of scales is the block. -/
theorem ld_scale (x : Vec Ideal S48x256 .i8) :
    View.ld x (Rect.unit (s := S48x256) ![0, 0] S48x256.size inb_S48x256_S48x256_0_0) = x :=
  View.ld_unit_zero (S := S48x256) (by funext a; fin_cases a <;> rfl) _ x

/-- A load of the whole scratch is the scratch. -/
theorem ld_scratch : View.ld (View.read (Elt Ideal) (View.whole cc0_scratch0) ((Memref.isWhole_whole cc0_scratch0).unread xs))
    (Rect.unit (s := S1536x768) ![0, 0] S1536x768.size inb_S1536x768_S1536x768_0_0) = xs := by
  rw [show View.read (Elt Ideal) (View.whole cc0_scratch0) ((Memref.isWhole_whole cc0_scratch0).unread xs) = xs from
    (Memref.isWhole_whole cc0_scratch0).read_unread xs]
  exact View.ld_unit_zero (S := S1536x768) (by funext a; fin_cases a <;> rfl) _ xs

/-- The codes of a block whose operands are known. -/
theorem codes_of (g u g' u' : FVec Ideal S256x1536 .bf16) (x x' : FVec Ideal S1536x768 .bf16) (hg : g = g') (hu : u = u') (hx : x = x') :
    k0_pay502 (F := Ideal) (k0_pay495 (F := Ideal) (k0_pay494 (F := Ideal) g x) u x) (k0_pay501 (F := Ideal) (k0_pay496 (F := Ideal) (k0_pay494 (F := Ideal) g x) u x)
      (k0_pay497 (F := Ideal) (k0_pay494 (F := Ideal) g x) u x) (k0_pay498 (F := Ideal) (k0_pay494 (F := Ideal) g x) u x) (k0_pay499 (F := Ideal) (k0_pay494 (F := Ideal) g x) u x))
      = fun i => blockCode g' u' x' ⟨(i 0).val, (i 0).isLt⟩ ⟨(i 1).val, (i 1).isLt⟩ := by
  subst hg hu hx
  exact codes_eq g u x _ rfl

set_option maxHeartbeats 4000000 in
/-- A later point stores the codes of the block, over the activations the scratch holds. -/
theorem codesB (h : ¬t.val % 35 = 0) : View.canon (runB c t x0 x1 x2 x3 x4 x5 xs h).1 = pointCodes x2 x3 x4 x5 xs := by
  unfold runB kernelRun0_B
  dsimp only
  sl_unfold_words
  simp only [View.readAt_eq_ld, (hs0_2 t).read_unread, (hs0_3 t).read_unread, (hs0_4 t).read_unread, (hs0_5 t).read_unread]
  rw [View.canon_unit_zero (S := S768x256) (by funext a; fin_cases a <;> rfl)]
  refine codes_of _ _ _ _ _ _ ?_ ?_ ?_
  · exact (readCov_weight _ x2 _ _ _ _ _ _ _ _ _ _ _ _ _ rfl rfl rfl rfl rfl rfl rfl rfl rfl rfl rfl rfl).trans (congrArg (weightVal x2) (ld_scale x3))
  · exact (readCov_weight _ x4 _ _ _ _ _ _ _ _ _ _ _ _ _ rfl rfl rfl rfl rfl rfl rfl rfl rfl rfl rfl rfl).trans (congrArg (weightVal x4) (ld_scale x5))
  · exact ld_scratch xs

/-- The scale bytes of a block whose operands are known, all tokens in one row. -/
theorem scale_of (g u g' u' : FVec Ideal S256x1536 .bf16) (x x' : FVec Ideal S1536x768 .bf16) (hg : g = g') (hu : u = u') (hx : x = x')
    (q : Fin 8) (n : Fin 768) :
    k0_pay503 (k0_pay500 (F := Ideal) (k0_pay496 (F := Ideal) (k0_pay494 (F := Ideal) g x) u x) (k0_pay497 (F := Ideal) (k0_pay494 (F := Ideal) g x) u x)
      (k0_pay498 (F := Ideal) (k0_pay494 (F := Ideal) g x) u x) (k0_pay499 (F := Ideal) (k0_pay494 (F := Ideal) g x) u x)) (ix2 q n)
      = blockScale g' u' x' q n := by
  subst hg hu hx
  exact scaleRows_apply g u x _ rfl q n

set_option maxHeartbeats 4000000 in
/-- A later point stores the scale bytes of the block. -/
theorem scaleB (h : ¬t.val % 35 = 0) : View.canon (runB c t x0 x1 x2 x3 x4 x5 xs h).2.1 = pointScale x2 x3 x4 x5 xs := by
  funext y
  refine View.canon_apply_of_pieces (Val := Elt Ideal) (S := S6x8x128) (e := .i8) (pointScale x2 x3 x4 x5 xs) _ ?_ y
    (cover0_B_7 (F := Ideal) c _ _ _ _ _ _ _ _ _ _ _ _ _ _ _ _ _ _ _ _ _ _ _ _ _ _ _ _ _ _ _ y)
  unfold runB kernelRun0_B
  dsimp only
  sl_unfold_words
  simp only [View.readAt_eq_ld, (hs0_2 t).read_unread, (hs0_3 t).read_unread, (hs0_4 t).read_unread, (hs0_5 t).read_unread]
  simp only [List.forall_mem_cons, List.not_mem_nil, false_imp_iff, implies_true, and_true]
  repeat' apply And.intro
  all_goals
    intro z
    refine scalePiece_restricts (weightVal x2 x3) (weightVal x4 x5) xs _ (fun q n => scale_of _ _ _ _ _ _ ?_ ?_ ?_ q n) _ _ _ (by decide) (by decide) z
    · exact (readCov_weight _ x2 _ _ _ _ _ _ _ _ _ _ _ _ _ rfl rfl rfl rfl rfl rfl rfl rfl rfl rfl rfl rfl).trans (congrArg (weightVal x2) (ld_scale x3))
    · exact (readCov_weight _ x4 _ _ _ _ _ _ _ _ _ _ _ _ _ rfl rfl rfl rfl rfl rfl rfl rfl rfl rfl rfl rfl).trans (congrArg (weightVal x4) (ld_scale x5))
    · exact ld_scratch xs

/-- The scratch that the first point filled, read back whole. -/
theorem scratch_readA (h : t.val % 35 = 0) {sig : RefSig} {κ : Kind} {sp : Space} (v : View sig κ sp S1536x768 .bf16) :
    v.readCov (Val := Elt Ideal) (runA c t x0 x1 x2 x3 x4 x5 h).2.2.1
      (Rect.unit (s := S1536x768) ![0, 0] S1536x768.size inb_S1536x768_S1536x768_0_0).toLoadRect = xVal x0 x1 := by
  rw [View.readCov_eq_canon', scratchA]
  funext k
  refine congrArg (xVal x0 x1) (funext fun b => Fin.ext ?_)
  fin_cases b
  · show 0 + 1 * (k 0).val = (k 0).val; omega
  · show 0 + 1 * (k 1).val = (k 1).val; omega

set_option maxHeartbeats 4000000 in
/-- The first point stores the codes of the block. -/
theorem codesA (h : t.val % 35 = 0) : View.canon (runA c t x0 x1 x2 x3 x4 x5 h).1 = pointCodes x2 x3 x4 x5 (xVal x0 x1) := by
  unfold runA kernelRun0_A
  dsimp only
  rw [View.canon_unit_zero (S := S768x256) (by funext a; fin_cases a <;> rfl)]
  sl_unfold_words
  simp only [View.readAt_eq_ld, (hs0_2 t).read_unread, (hs0_3 t).read_unread, (hs0_4 t).read_unread, (hs0_5 t).read_unread]
  refine codes_of _ _ _ _ _ _ ?_ ?_ ?_
  · exact (readCov_weight _ x2 _ _ _ _ _ _ _ _ _ _ _ _ _ rfl rfl rfl rfl rfl rfl rfl rfl rfl rfl rfl rfl).trans (congrArg (weightVal x2) (ld_scale x3))
  · exact (readCov_weight _ x4 _ _ _ _ _ _ _ _ _ _ _ _ _ rfl rfl rfl rfl rfl rfl rfl rfl rfl rfl rfl rfl).trans (congrArg (weightVal x4) (ld_scale x5))
  · exact scratch_readA c t x0 x1 x2 x3 x4 x5 h _

set_option maxHeartbeats 4000000 in
/-- The first point stores the scale bytes of the block. -/
theorem scaleA (h : t.val % 35 = 0) : View.canon (runA c t x0 x1 x2 x3 x4 x5 h).2.1 = pointScale x2 x3 x4 x5 (xVal x0 x1) := by
  funext y
  refine View.canon_apply_of_pieces (Val := Elt Ideal) (S := S6x8x128) (e := .i8) (pointScale x2 x3 x4 x5 (xVal x0 x1)) _ ?_ y
    (cover0_A_7 (F := Ideal) c _ _ _ _ _ _ _ _ _ _ _ _ _ _ _ _ _ _ _ _ _ _ _ _ _ _ _ _ _ _ y)
  unfold runA kernelRun0_A
  dsimp only
  sl_unfold_words
  simp only [View.readAt_eq_ld, (hs0_2 t).read_unread, (hs0_3 t).read_unread, (hs0_4 t).read_unread, (hs0_5 t).read_unread]
  simp only [List.forall_mem_cons, List.not_mem_nil, false_imp_iff, implies_true, and_true]
  repeat' apply And.intro
  all_goals
    intro z
    refine scalePiece_restricts (weightVal x2 x3) (weightVal x4 x5) (xVal x0 x1) _ (fun q n => scale_of _ _ _ _ _ _ ?_ ?_ ?_ q n) _ _ _ (by decide) (by decide) z
    · exact (readCov_weight _ x2 _ _ _ _ _ _ _ _ _ _ _ _ _ rfl rfl rfl rfl rfl rfl rfl rfl rfl rfl rfl rfl).trans (congrArg (weightVal x2) (ld_scale x3))
    · exact (readCov_weight _ x4 _ _ _ _ _ _ _ _ _ _ _ _ _ rfl rfl rfl rfl rfl rfl rfl rfl rfl rfl rfl rfl).trans (congrArg (weightVal x4) (ld_scale x5))
    · exact scratch_readA c t x0 x1 x2 x3 x4 x5 h _

end Cert.MxSwiglu
-- ==== Proof.KernelFold.lean ====
module

public import proofs.«01_k».proof.Proof.KernelPoint

/-! What the kernel leaves after each grid point: the scratch of activations is filled once and kept, so every point
stores the codes and the scale bytes of its own block of features. -/

@[expose] public section

set_option maxRecDepth 16384

noncomputable section

namespace Cert.MxSwiglu

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- The first point: what it stores and leaves. -/
theorem outsA (t : Fin cfg0.N) (h : t.val % 35 = 0) : outsAt0 m c t.val t.isLt =
    (pointCodes (iblk m c 2 t) (iblk m c 3 t) (iblk m c 4 t) (iblk m c 5 t) (xVal (iblk m c 0 t) (iblk m c 1 t)),
      pointScale (iblk m c 2 t) (iblk m c 3 t) (iblk m c 4 t) (iblk m c 5 t) (xVal (iblk m c 0 t) (iblk m c 1 t)),
      xVal (iblk m c 0 t) (iblk m c 1 t)) := by
  rw [outsAt0_A m c t h]
  refine Prod.ext ?_ (Prod.ext ?_ ?_)
  · dsimp only
    unfold out0_A_6
    rw [View.read_writes_eq_canon _ _ _ (cover0_A_6 (F := Ideal) c _ _ _ _ _ _ _ _ _ _ _ _ _ _ _ _ _ _ _ _ _ _ _ _ _ _ _ _ _ _)]
    exact codesA c t (iblk m c 0 t) (iblk m c 1 t) (iblk m c 2 t) (iblk m c 3 t) (iblk m c 4 t) (iblk m c 5 t) h
  · dsimp only
    unfold out0_A_7
    rw [View.read_writes_eq_canon _ _ _ (cover0_A_7 (F := Ideal) c _ _ _ _ _ _ _ _ _ _ _ _ _ _ _ _ _ _ _ _ _ _ _ _ _ _ _ _ _ _)]
    exact scaleA c t (iblk m c 0 t) (iblk m c 1 t) (iblk m c 2 t) (iblk m c 3 t) (iblk m c 4 t) (iblk m c 5 t) h
  · dsimp only
    unfold sout0_A_0
    rw [View.read_writes_eq_canon _ _ _ (scover0_A_0 (F := Ideal) c _ _ _ _ _ _ _ _ _ _ _ _ _ _ _ _ _ _ _ _ _ _ _ _ _ _ _ _ _ _)]
    exact scratchA c t (iblk m c 0 t) (iblk m c 1 t) (iblk m c 2 t) (iblk m c 3 t) (iblk m c 4 t) (iblk m c 5 t) h

/-- A later point: what it stores, over what the scratch holds; the scratch stays. -/
theorem outsB (t : Fin cfg0.N) (h : ¬t.val % 35 = 0) (xs : S1536x768.Idx → EReal)
    (hs : (outsAt0 m c (t.val - 1) (Nat.lt_of_le_of_lt (Nat.sub_le _ _) t.isLt)).2.2 = xs) : outsAt0 m c t.val t.isLt =
    (pointCodes (iblk m c 2 t) (iblk m c 3 t) (iblk m c 4 t) (iblk m c 5 t) xs,
      pointScale (iblk m c 2 t) (iblk m c 3 t) (iblk m c 4 t) (iblk m c 5 t) xs, xs) := by
  rw [outsAt0_B m c t h, hs]
  refine Prod.ext ?_ (Prod.ext ?_ ?_)
  · dsimp only
    unfold out0_B_6
    rw [View.read_writes_eq_canon _ _ _ (cover0_B_6 (F := Ideal) c _ _ _ _ _ _ _ _ _ _ _ _ _ _ _ _ _ _ _ _ _ _ _ _ _ _ _ _ _ _ _)]
    exact codesB c t (iblk m c 0 t) (iblk m c 1 t) (iblk m c 2 t) (iblk m c 3 t) (iblk m c 4 t) (iblk m c 5 t) xs h
  · dsimp only
    unfold out0_B_7
    rw [View.read_writes_eq_canon _ _ _ (cover0_B_7 (F := Ideal) c _ _ _ _ _ _ _ _ _ _ _ _ _ _ _ _ _ _ _ _ _ _ _ _ _ _ _ _ _ _ _)]
    exact scaleB c t (iblk m c 0 t) (iblk m c 1 t) (iblk m c 2 t) (iblk m c 3 t) (iblk m c 4 t) (iblk m c 5 t) xs h
  · rfl

/-- Every point's block of the activation codes is the whole array. -/
theorem iblk_x (t : Fin cfg0.N) : iblk m c 0 t = V m c main_v0 := by
  funext y
  refine congrArg (V m c main_v0) (funext fun a => Fin.ext ?_)
  match a with
  | ⟨0, _⟩ => show 0 * 768 + 1 * (y 0).val = (y 0).val; omega
  | ⟨1, _⟩ => show 0 * 1536 + 1 * (y 1).val = (y 1).val; omega

/-- Every point's block of the activation scales is the whole array. -/
theorem iblk_xs (t : Fin cfg0.N) : iblk m c 1 t = V m c main_v1 := by
  funext y
  refine congrArg (V m c main_v1) (funext fun a => Fin.ext ?_)
  match a with
  | ⟨0, _⟩ => show 0 * 6 + 1 * (y 0).val = (y 0).val; omega
  | ⟨1, _⟩ => show 0 * 48 + 1 * (y 1).val = (y 1).val; omega
  | ⟨2, _⟩ => show 0 * 128 + 1 * (y 2).val = (y 2).val; omega

/-- The dequantised activations, from the arrays the kernel is given. -/
abbrev acts : S1536x768.Idx → EReal := xVal (V m c main_v0) (V m c main_v1)

/-- After every point the scratch holds the dequantised activations. -/
theorem scratch_kept : ∀ (n : ℕ) (hn : n < cfg0.N), (outsAt0 m c n hn).2.2 = acts m c
  | 0, hn => by
    have := outsA m c ⟨0, hn⟩ rfl
    rw [iblk_x, iblk_xs] at this
    exact congrArg (fun p => p.2.2) this
  | n + 1, hn => by
    have h35 : n + 1 < 35 := lt_of_lt_of_eq hn N_0
    exact congrArg (fun p => p.2.2) (outsB m c ⟨n + 1, hn⟩ (by show ¬(n + 1) % 35 = 0; omega) (acts m c) (scratch_kept n _))

/-- What any point stores: the codes and the scale bytes of its block of features. -/
theorem outs_eq (t : Fin cfg0.N) : outsAt0 m c t.val t.isLt =
    (pointCodes (iblk m c 2 t) (iblk m c 3 t) (iblk m c 4 t) (iblk m c 5 t) (acts m c),
      pointScale (iblk m c 2 t) (iblk m c 3 t) (iblk m c 4 t) (iblk m c 5 t) (acts m c), acts m c) := by
  by_cases h : t.val % 35 = 0
  · rw [outsA m c t h, iblk_x, iblk_xs]
  · exact outsB m c t h (acts m c) (scratch_kept m c _ _)

end Cert.MxSwiglu
-- ==== Proof.Spec.lean ====
module

public import proofs.«01_k».proof.Proof.Block
public import proofs.«01_k».proof.Proof.WeightTile

/-! What both programs compute, over the 768 tokens and the 8960 features: the SwiGLU of the two products of dequantised
operands, requantised in groups of 32 features. The file also shows that a block of 256 features of the kernel holds its
part of it: a block computes `w * x` where this file has `x * w`, and the kernel's scale comes from an exponent field. -/

@[expose] public section

noncomputable section

namespace Cert.MxSwiglu

open Idealize.ShloMosaic

/-- The dequantised activation of token `n` at column `k`. -/
def actOf (x : Cert.KernelIdeal.S6x128x1536.Idx → EReal) (s : Cert.KernelIdeal.S6x128x48.Idx → BitVec 8) (n : Fin 768) (k : Fin 1536) : EReal :=
  x (ix3 ⟨n.val / 128, by omega⟩ ⟨n.val % 128, by omega⟩ k)
    * byteVal (s (ix3 ⟨n.val / 128, by omega⟩ ⟨n.val % 128, by omega⟩ ⟨k.val / 32, by omega⟩))

/-- The dequantised weight of feature `f` at column `k`. -/
def weightOf (w : Cert.KernelIdeal.S8960x1536.Idx → EReal) (s : Cert.KernelIdeal.S8960x48.Idx → BitVec 8) (f : Fin 8960) (k : Fin 1536) : EReal :=
  w (ix2 f k) * byteVal (s (ix2 f ⟨k.val / 32, by omega⟩))

variable (X : Fin 768 → Fin 1536 → EReal) (G U : Fin 8960 → Fin 1536 → EReal)

/-- The activated value of token `n` and feature `f`. -/
def value (n : Fin 768) (f : Fin 8960) : EReal := swiglu (∑ k : Fin 1536, X n k * G f k) (∑ k : Fin 1536, X n k * U f k)

/-- The scaled magnitude of group `q` of 32 features. -/
def magnitude (n : Fin 768) (q : Fin 280) : EReal := groupMax fun k => value X G U n ⟨q.val * 32 + k.val, by omega⟩

/-- The code of token `n` and feature `f`. -/
def code (n : Fin 768) (f : Fin 8960) : EReal :=
  clip (value X G U n f * refPow (0#32 - refExp (magnitude X G U n ⟨f.val / 32, by omega⟩)))

/-- The scale byte of token `n` and group `q`. -/
def scaleByte (n : Fin 768) (q : Fin 280) : BitVec 8 := (refExp (magnitude X G U n q) + 127#32).setWidth 8

/-- A feature of a block is one of the 8960. -/
theorem feature_lt (t : Fin 35) (f : Fin 256) : 256 * t.val + f.val < 8960 := by omega

/-- A group of a block is one of the 280. -/
theorem group_lt (t : Fin 35) (q : Fin 8) : 8 * t.val + q.val < 280 := by omega

section
open Cert.KernelIdeal

variable {X G U} {g u : S256x1536.Idx → EReal} {x : S1536x768.Idx → EReal} (t : Fin 35)
  (hg : ∀ (f : Fin 256) (k : Fin 1536), g (ix2 f k) = G ⟨256 * t.val + f.val, feature_lt t f⟩ k)
  (hu : ∀ (f : Fin 256) (k : Fin 1536), u (ix2 f k) = U ⟨256 * t.val + f.val, feature_lt t f⟩ k)
  (hx : ∀ (k : Fin 1536) (n : Fin 768), x (ix2 k n) = X n k)
include hg hu hx

/-- Block `t` computes the activated values of its features. -/
theorem blockVal_eq (f : Fin 256) (n : Fin 768) : blockVal g u x f n = value X G U n ⟨256 * t.val + f.val, feature_lt t f⟩ := by
  unfold blockVal value
  simp only [hg, hu, hx, mul_comm (G _ _), mul_comm (U _ _)]

/-- Block `t` computes the scaled magnitudes of its groups. -/
theorem blockMax_eq (q : Fin 8) (n : Fin 768) : blockMax g u x q n = magnitude X G U n ⟨8 * t.val + q.val, group_lt t q⟩ := by
  unfold blockMax magnitude
  refine congrArg groupMax (funext fun k => ?_)
  rw [blockVal_eq t hg hu hx]
  refine congrArg (value X G U n) (Fin.ext ?_)
  show 256 * t.val + (q.val * 32 + k.val) = (8 * t.val + q.val) * 32 + k.val
  omega

/-- Block `t` computes the codes of its features. -/
theorem blockCode_eq (n : Fin 768) (f : Fin 256) : blockCode g u x n f = code X G U n ⟨256 * t.val + f.val, feature_lt t f⟩ := by
  unfold blockCode code
  rw [blockVal_eq t hg hu hx, blockMax_eq t hg hu hx, kernelInv_eq]
  refine congrArg (fun q => clip (_ * refPow (0#32 - refExp (magnitude X G U n q)))) (Fin.ext ?_)
  show 8 * t.val + f.val / 32 = (256 * t.val + f.val) / 32
  omega

/-- Block `t` computes the scale bytes of its groups. -/
theorem blockScale_eq (q : Fin 8) (n : Fin 768) : blockScale g u x q n = scaleByte X G U n ⟨8 * t.val + q.val, group_lt t q⟩ := by
  unfold blockScale scaleByte
  rw [blockMax_eq t hg hu hx, kernelScale_eq]

end

end Cert.MxSwiglu
-- ==== Proof.KernelArray.lean ====
module

public import proofs.«01_k».proof.Proof.KernelFold
public import proofs.«01_k».proof.Proof.Spec

/-! What the kernel's two result arrays hold after all 35 grid points: the blocks tile each array, and block `t` holds
features `256 t` to `256 t + 255` and groups `8 t` to `8 t + 7`. -/

@[expose] public section

set_option maxRecDepth 16384

noncomputable section

namespace Cert.MxSwiglu

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- The place of every window's block at point `t`. -/
theorem place : ∀ t : Fin cfg0.N, win0_2.index t = ![t.val, 0] ∧ win0_3.index t = ![0, t.val] ∧ win0_4.index t = ![t.val, 0]
    ∧ win0_5.index t = ![0, t.val] ∧ win0_6.index t = ![0, t.val] ∧ win0_7.index t = ![0, t.val, 0] :=
  (by decide +kernel : ∀ t : Fin grid0.N, _)

theorem lt35 (t : Fin cfg0.N) : t.val < 35 := lt_of_lt_of_eq t.isLt N_0

/-- The block of gate codes at point `t`. -/
theorem gate_blk (t : Fin cfg0.N) (f : Fin 256) (k : Fin 1536) :
    iblk m c 2 t (ix2 f k) = V m c main_arg2 (ix2 ⟨256 * t.val + f.val, by have := lt35 t; omega⟩ k) := by
  refine congrArg (V m c main_arg2) (funext fun a => Fin.ext ?_)
  have h := (place t).1
  match a with
  | ⟨0, _⟩ => show win0_2.index t 0 * 256 + 1 * f.val = 256 * t.val + f.val; rw [h]; show t.val * 256 + _ = _; omega
  | ⟨1, _⟩ => show win0_2.index t 1 * 1536 + 1 * k.val = k.val; rw [h]; show 0 * 1536 + _ = _; omega

/-- The block of gate scales at point `t`. -/
theorem gateScale_blk (t : Fin cfg0.N) (q : Fin 48) (f : Fin 256) :
    iblk m c 3 t (ix2 q f) = V m c main_v2 (ix2 q ⟨256 * t.val + f.val, by have := lt35 t; omega⟩) := by
  refine congrArg (V m c main_v2) (funext fun a => Fin.ext ?_)
  have h := (place t).2.1
  match a with
  | ⟨0, _⟩ => show win0_3.index t 0 * 48 + 1 * q.val = q.val; rw [h]; show 0 * 48 + _ = _; omega
  | ⟨1, _⟩ => show win0_3.index t 1 * 256 + 1 * f.val = 256 * t.val + f.val; rw [h]; show t.val * 256 + _ = _; omega

/-- The block of up codes at point `t`. -/
theorem up_blk (t : Fin cfg0.N) (f : Fin 256) (k : Fin 1536) :
    iblk m c 4 t (ix2 f k) = V m c main_arg4 (ix2 ⟨256 * t.val + f.val, by have := lt35 t; omega⟩ k) := by
  refine congrArg (V m c main_arg4) (funext fun a => Fin.ext ?_)
  have h := (place t).2.2.1
  match a with
  | ⟨0, _⟩ => show win0_4.index t 0 * 256 + 1 * f.val = 256 * t.val + f.val; rw [h]; show t.val * 256 + _ = _; omega
  | ⟨1, _⟩ => show win0_4.index t 1 * 1536 + 1 * k.val = k.val; rw [h]; show 0 * 1536 + _ = _; omega

/-- The block of up scales at point `t`. -/
theorem upScale_blk (t : Fin cfg0.N) (q : Fin 48) (f : Fin 256) :
    iblk m c 5 t (ix2 q f) = V m c main_v3 (ix2 q ⟨256 * t.val + f.val, by have := lt35 t; omega⟩) := by
  refine congrArg (V m c main_v3) (funext fun a => Fin.ext ?_)
  have h := (place t).2.2.2.1
  match a with
  | ⟨0, _⟩ => show win0_5.index t 0 * 48 + 1 * q.val = q.val; rw [h]; show 0 * 48 + _ = _; omega
  | ⟨1, _⟩ => show win0_5.index t 1 * 256 + 1 * f.val = 256 * t.val + f.val; rw [h]; show t.val * 256 + _ = _; omega

/-- The activations of a run, token by token. -/
def actsOf : Fin 768 → Fin 1536 → EReal :=
  actOf (m ((c : Thread nD τ).loc main_arg0)) (m ((c : Thread nD τ).loc main_arg1))
/-- The gate weights of a run, feature by feature. -/
def gatesOf : Fin 8960 → Fin 1536 → EReal :=
  weightOf (m ((c : Thread nD τ).loc main_arg2)) (m ((c : Thread nD τ).loc main_arg3))
/-- The up weights of a run, feature by feature. -/
def upsOf : Fin 8960 → Fin 1536 → EReal :=
  weightOf (m ((c : Thread nD τ).loc main_arg4)) (m ((c : Thread nD τ).loc main_arg5))

/-- The region finds the activation codes with batch and sequence joined. -/
theorem V_x : V m c main_v0 = shapeCast S768x1536 (m ((c : Thread nD τ).loc main_arg0)) shapeCasts_S6x128x1536_S768x1536 := by
  show StableHlo.after hostOps0 _ (Proc.devRef .tc main_v0) = _
  after_results
  rfl

/-- The region finds the activation scales with their last two axes exchanged. -/
theorem V_xs : V m c main_v1 = transpose S6x48x128 [0, 2, 1] (m ((c : Thread nD τ).loc main_arg1)) transposes_S6x128x48_S6x48x128_0_2_1 := by
  show StableHlo.after hostOps0 _ (Proc.devRef .tc main_v1) = _
  after_results
  try rfl

/-- The region finds the gate scales transposed. -/
theorem V_gs : V m c main_v2 = transpose S48x8960 [1, 0] (m ((c : Thread nD τ).loc main_arg3)) transposes_S8960x48_S48x8960_1_0 := by
  show StableHlo.after hostOps0 _ (Proc.devRef .tc main_v2) = _
  after_results
  try rfl

/-- The region finds the up scales transposed. -/
theorem V_us : V m c main_v3 = transpose S48x8960 [1, 0] (m ((c : Thread nD τ).loc main_arg5)) transposes_S8960x48_S48x8960_1_0 := by
  show StableHlo.after hostOps0 _ (Proc.devRef .tc main_v3) = _
  after_results
  try rfl

/-- An array with batch and sequence joined, at an element. -/
theorem joined_apply {α : Type} (x : S6x128x1536.Idx → α) (h) (n : Fin 768) (k : Fin 1536) :
    shapeCast S768x1536 x h (ix2 n k) = x (ix3 ⟨n.val / 128, by omega⟩ ⟨n.val % 128, by omega⟩ k) := by
  refine shapeCast_apply _ _ _ _ ?_
  rw [rowMajor_val2 _ _ rfl, rowMajor_val3 _ _ _ rfl rfl]
  show n.val / 128 * (128 * 1536) + n.val % 128 * 1536 + k.val = n.val * 1536 + k.val
  omega

/-- The scratch holds the activations, transposed. -/
theorem acts_eq (k : Fin 1536) (n : Fin 768) : acts m c (ix2 k n) = actsOf m c n k := by
  have h0 : V m c main_v0 (ix2 n k) = m ((c : Thread nD τ).loc main_arg0) (ix3 ⟨n.val / 128, by omega⟩ ⟨n.val % 128, by omega⟩ k) := by
    rw [V_x]
    exact joined_apply _ _ n k
  have h1 : V m c main_v1 (ix3 (⟨n.val / 128, by omega⟩ : Fin 6) (⟨k.val / 32, by omega⟩ : Fin 48) (⟨n.val % 128, by omega⟩ : Fin 128))
      = m ((c : Thread nD τ).loc main_arg1) (ix3 ⟨n.val / 128, by omega⟩ ⟨n.val % 128, by omega⟩ ⟨k.val / 32, by omega⟩) := by
    rw [V_xs]
    exact transpose_apply _ _ _ _ _ (by intro b; fin_cases b <;> rfl)
  exact congrArg₂ (fun (a : EReal) b => a * byteVal b) h0 h1

/-- The gate weights a point dequantises. -/
theorem gates_eq (t : Fin cfg0.N) (f : Fin 256) (k : Fin 1536) : weightVal (iblk m c 2 t) (iblk m c 3 t) (ix2 f k)
    = gatesOf m c ⟨256 * t.val + f.val, by have := lt35 t; omega⟩ k := by
  refine congrArg₂ (fun (a : EReal) b => a * byteVal b) ((gate_blk m c t f k).trans (by rw [V_main_arg2])) ((gateScale_blk m c t _ f).trans ?_)
  rw [V_gs]
  exact transpose_apply _ _ _ _ _ (by intro b; fin_cases b <;> rfl)

/-- The up weights a point dequantises. -/
theorem ups_eq (t : Fin cfg0.N) (f : Fin 256) (k : Fin 1536) : weightVal (iblk m c 4 t) (iblk m c 5 t) (ix2 f k)
    = upsOf m c ⟨256 * t.val + f.val, by have := lt35 t; omega⟩ k := by
  refine congrArg₂ (fun (a : EReal) b => a * byteVal b) ((up_blk m c t f k).trans (by rw [V_main_arg4])) ((upScale_blk m c t _ f).trans ?_)
  rw [V_us]
  exact transpose_apply _ _ _ _ _ (by intro b; fin_cases b <;> rfl)

/-- The codes, as one array. -/
def codeArr : S768x8960.Idx → EReal := fun i => code (actsOf m c) (gatesOf m c) (upsOf m c) ⟨(i 0).val, (i 0).isLt⟩ ⟨(i 1).val, (i 1).isLt⟩

/-- The scale bytes, as one array in the kernel's layout. -/
def scaleArr : S6x280x128.Idx → BitVec 8 := fun i => scaleByte (actsOf m c) (gatesOf m c) (upsOf m c)
  ⟨128 * (i 0).val + (i 2).val, by have := (i 0).isLt; have := (i 2).isLt; simp at *; omega⟩ ⟨(i 1).val, (i 1).isLt⟩

/-- Point `t` writes back its block of the codes. -/
theorem flushed_codes (t : Fin cfg0.N) : (dats m 0 c).flushed 6 t = ((cfg0.win 6).blk t).view.read (Elt Ideal) (codeArr m c) := by
  show (cfg0.win 6).cut (grid0.coords t) ((dats m 0 c).after 6 t) = _
  rw [after0_6, outs_eq]
  funext y
  have hp := (place t).2.2.2.2.1
  refine (blockCode_eq (⟨t.val, lt35 t⟩ : Fin 35) (gates_eq m c t) (ups_eq m c t) (acts_eq m c) ⟨(y 0).val, (y 0).isLt⟩ ⟨(y 1).val, (y 1).isLt⟩).trans ?_
  refine congrArg₂ (code (actsOf m c) (gatesOf m c) (upsOf m c)) (Fin.ext ?_) (Fin.ext ?_)
  · show (y 0).val = win0_6.index t 0 * 768 + 1 * (y 0).val
    rw [hp]; show _ = 0 * 768 + _; omega
  · show 256 * t.val + (y 1).val = win0_6.index t 1 * 256 + 1 * (y 1).val
    rw [hp]; show _ = t.val * 256 + _; omega

/-- Point `t` writes back its block of the scale bytes. -/
theorem flushed_scales (t : Fin cfg0.N) : (dats m 0 c).flushed 7 t = ((cfg0.win 7).blk t).view.read (Elt Ideal) (scaleArr m c) := by
  show (cfg0.win 7).cut (grid0.coords t) ((dats m 0 c).after 7 t) = _
  rw [after0_7, outs_eq]
  funext y
  have hp := (place t).2.2.2.2.2
  refine (blockScale_eq (⟨t.val, lt35 t⟩ : Fin 35) (gates_eq m c t) (ups_eq m c t) (acts_eq m c) ⟨(y 1).val, (y 1).isLt⟩
    ⟨128 * (y 0).val + (y 2).val, by have h0 : (y 0).val < 6 := (y 0).isLt; have h2 : (y 2).val < 128 := (y 2).isLt; omega⟩).trans ?_
  refine congrArg₂ (scaleByte (actsOf m c) (gatesOf m c) (upsOf m c)) (Fin.ext ?_) (Fin.ext ?_)
  · show 128 * (y 0).val + (y 2).val = 128 * (win0_7.index t 0 * 6 + 1 * (y 0).val) + (win0_7.index t 2 * 128 + 1 * (y 2).val)
    rw [hp]; show _ = 128 * (0 * 6 + _) + (0 * 128 + _); omega
  · show 8 * t.val + (y 1).val = win0_7.index t 1 * 8 + 1 * (y 1).val
    rw [hp]; show _ = t.val * 8 + _; omega

/-- Every point writes its two blocks back. -/
theorem flushes : ∀ t : Fin cfg0.N, (cfg0.win 6).flush t = true ∧ (cfg0.win 7).flush t = true :=
  (by decide +kernel : ∀ t : Fin grid0.N, win0_6.flush t = true ∧ win0_7.flush t = true)

/-- The array of codes after the run. -/
theorem final_codes : (dats m 0 c).arrAt 6 cfg0.N = codeArr m c :=
  (dats m 0 c).arrAt_eq_of_cover 6 _ (fun t _ => flushed_codes m c t) (fun i => by
    have h0 : (i 0).val < 768 := (i 0).isLt
    have h1 : (i 1).val < 8960 := (i 1).isLt
    let t : Fin cfg0.N := ⟨(i 1).val / 256, lt_of_lt_of_eq (by omega) N_0.symm⟩
    refine ⟨t, (flushes t).1, ?_⟩
    show i ∈ ((View.whole main_v4_0).slice (win0_6.rect t)).set
    rw [View.set_slice_whole, Rect.mem_set_unit]
    have hp := (place t).2.2.2.2.1
    intro a
    match a with
    | ⟨0, _⟩ => show win0_6.index t 0 * 768 ≤ (i 0).val ∧ (i 0).val < win0_6.index t 0 * 768 + 768; rw [hp]; show 0 * 768 ≤ _ ∧ _ < 0 * 768 + 768; omega
    | ⟨1, _⟩ =>
      show win0_6.index t 1 * 256 ≤ (i 1).val ∧ (i 1).val < win0_6.index t 1 * 256 + 256
      rw [hp]; show (i 1).val / 256 * 256 ≤ _ ∧ _ < (i 1).val / 256 * 256 + 256; omega)

/-- The array of scale bytes after the run. -/
theorem final_scales : (dats m 0 c).arrAt 7 cfg0.N = scaleArr m c :=
  (dats m 0 c).arrAt_eq_of_cover 7 _ (fun t _ => flushed_scales m c t) (fun i => by
    have h0 : (i 0).val < 6 := (i 0).isLt
    have h1 : (i 1).val < 280 := (i 1).isLt
    have h2 : (i 2).val < 128 := (i 2).isLt
    let t : Fin cfg0.N := ⟨(i 1).val / 8, lt_of_lt_of_eq (by omega) N_0.symm⟩
    refine ⟨t, (flushes t).2, ?_⟩
    show i ∈ ((View.whole main_v4_1).slice (win0_7.rect t)).set
    rw [View.set_slice_whole, Rect.mem_set_unit]
    have hp := (place t).2.2.2.2.2
    intro a
    match a with
    | ⟨0, _⟩ => show win0_7.index t 0 * 6 ≤ (i 0).val ∧ (i 0).val < win0_7.index t 0 * 6 + 6; rw [hp]; show 0 * 6 ≤ _ ∧ _ < 0 * 6 + 6; omega
    | ⟨1, _⟩ =>
      show win0_7.index t 1 * 8 ≤ (i 1).val ∧ (i 1).val < win0_7.index t 1 * 8 + 8
      rw [hp]; show (i 1).val / 8 * 8 ≤ _ ∧ _ < (i 1).val / 8 * 8 + 8; omega
    | ⟨2, _⟩ => show win0_7.index t 2 * 128 ≤ (i 2).val ∧ (i 2).val < win0_7.index t 2 * 128 + 128; rw [hp]; show 0 * 128 ≤ _ ∧ _ < 0 * 128 + 128; omega)

end Cert.MxSwiglu
-- ==== Proof.KernelResult.lean ====
module

public import proofs.«01_k».proof.Proof.KernelArray

/-! What the kernel's program returns: the array of codes with batch and sequence split again, and the array of scale
bytes with its last two axes exchanged. -/

@[expose] public section

set_option maxRecDepth 16384

noncomputable section

namespace Cert.MxSwiglu

open Cert.KernelIdeal Cert.KernelIdeal.Gen Idealize.ShloMosaic Idealize.ShloMosaic.TcCoe Idealize.SL.Sem Idealize.ShloMosaic.Tactic

/-- The codes both programs return, from the dequantised operands. -/
def codesOut (X : Fin 768 → Fin 1536 → EReal) (G U : Fin 8960 → Fin 1536 → EReal) : S6x128x8960.Idx → EReal := fun i =>
  code X G U ⟨128 * (i 0).val + (i 1).val, by have h0 : (i 0).val < 6 := (i 0).isLt; have h1 : (i 1).val < 128 := (i 1).isLt; omega⟩
    ⟨(i 2).val, (i 2).isLt⟩

/-- The scale bytes both programs return, from the dequantised operands. -/
def scalesOut (X : Fin 768 → Fin 1536 → EReal) (G U : Fin 8960 → Fin 1536 → EReal) : S6x128x280.Idx → BitVec 8 := fun i =>
  scaleByte X G U ⟨128 * (i 0).val + (i 1).val, by have h0 : (i 0).val < 6 := (i 0).isLt; have h1 : (i 1).val < 128 := (i 1).isLt; omega⟩
    ⟨(i 2).val, (i 2).isLt⟩

/-- An array of 768 tokens with batch and sequence split, at an element. -/
theorem split_apply {α : Type} (x : S768x8960.Idx → α) (h) (i : S6x128x8960.Idx) :
    shapeCast S6x128x8960 x h i = x (ix2 ⟨128 * (i 0).val + (i 1).val, by
      have h0 : (i 0).val < 6 := (i 0).isLt; have h1 : (i 1).val < 128 := (i 1).isLt; omega⟩ ⟨(i 2).val, (i 2).isLt⟩) := by
  refine shapeCast_apply _ _ _ _ ?_
  rw [rowMajor_val2 _ _ rfl, rowMajor_val3 _ _ _ rfl rfl]
  show (128 * (i 0).val + (i 1).val) * 8960 + (i 2).val = (i 0).val * (128 * 8960) + (i 1).val * 8960 + (i 2).val
  omega

variable (m : (ℓ : Loc nD τ sig) → Buf (Elt Ideal) ℓ) (c : Dev nD)

/-- The first result of the kernel's program. -/
theorem tail_codes : Pipeline.afterTail₀ cfgs (dats m) 0 (V0 m) [hostOps1] c main_v5 = codesOut (actsOf m c) (gatesOf m c) (upsOf m c) := by
  show StableHlo.after hostOps1 (Pipeline.withArrays spec0 c (V0 m c) fun w => (dats m 0 c).arrAt w cfg0.N) (Proc.devRef .tc main_v5) = _
  after_results
  have h := Pipeline.withArrays_arr spec0 (by decide) c (V0 m c) (fun w => (dats m 0 c).arrAt w cfg0.N) 6
  refine (congrArg (fun x => shapeCast S6x128x8960 x shapeCasts_S768x8960_S6x128x8960) (h.trans (final_codes m c))).trans ?_
  funext i
  exact split_apply (codeArr m c) _ i

/-- The second result of the kernel's program. -/
theorem tail_scales : Pipeline.afterTail₀ cfgs (dats m) 0 (V0 m) [hostOps1] c main_v6 = scalesOut (actsOf m c) (gatesOf m c) (upsOf m c) := by
  show StableHlo.after hostOps1 (Pipeline.withArrays spec0 c (V0 m c) fun w => (dats m 0 c).arrAt w cfg0.N) (Proc.devRef .tc main_v6) = _
  after_results
  have h := Pipeline.withArrays_arr spec0 (by decide) c (V0 m c) (fun w => (dats m 0 c).arrAt w cfg0.N) 7
  refine (congrArg (fun x => transpose S6x128x280 [0, 2, 1] x transposes_S6x280x128_S6x128x280_0_2_1) (h.trans (final_scales m c))).trans ?_
  funext i
  exact transpose_apply _ (scaleArr m c) _ i (ix3 ⟨(i 0).val, (i 0).isLt⟩ ⟨(i 2).val, (i 2).isLt⟩ ⟨(i 1).val, (i 1).isLt⟩) (by intro b; fin_cases b <;> rfl)

end Cert.MxSwiglu
-- ==== Proof.KernelRun.lean ====
module

public import proofs.«01_k».proof.Proof.KernelResult

/-! Every run of the kernel's program returns the specification's codes and scale bytes. -/

@[expose] public section

set_option maxRecDepth 16384

noncomputable section

namespace Cert.MxSwiglu

open Cert.KernelIdeal Cert.KernelIdeal.Gen Idealize.ShloMosaic Idealize.ShloMosaic.TcCoe Idealize.SL.Sem

variable (m : (ℓ : Loc nD τ sig) → Buf (Elt Ideal) ℓ) (g : Dev nD → PrngReg)

/-- Every run of the kernel's program ends with the specification's codes and scale bytes of its arguments, which stay as they were. -/
theorem kernel_run : θ_run (defs (F := Ideal)) (onTc (τ := τ) (main (F := Ideal))) ⟨m, fun _ => 0, g⟩ (fun r => ∀ c : Dev nD,
      r.2.mem ((c.tc : Thread nD τ).loc main_v5) = codesOut (actsOf m c) (gatesOf m c) (upsOf m c)
      ∧ r.2.mem ((c.tc : Thread nD τ).loc main_v6) = scalesOut (actsOf m c) (gatesOf m c) (upsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v5 (Pipeline.mem_restRefs_of main_v5 (by decide) (by decide))).trans (tail_codes m c),
      ((h c).2 main_v6 (Pipeline.mem_restRefs_of main_v6 (by decide) (by decide))).trans (tail_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩) (run_main m g)

end Cert.MxSwiglu
-- ==== Proof.ReferenceBody.lean ====
module

public import proofs.«01_k».proof.Proof.Gen.ReferenceIdeal.Frame
public import proofs.«01_k».proof.Proof.Spec

/-! What the reference computes, element by element: the same values, codes and scale bytes as `Spec`. -/

@[expose] public section

set_option maxRecDepth 16384

noncomputable section

namespace Cert.MxSwiglu

open Cert.ReferenceIdeal Cert.ReferenceIdeal.Gen Idealize.ShloMosaic Idealize.ShloMosaic.TcCoe Idealize.SL.Sem Idealize.ShloMosaic.Tactic

/-- The bits of an infinite float32 are `⊤`. -/
theorem ofBits_inf : Ideal.ofBits .f32 2139095040#32 = ⊤ := by
  rw [← fieldVal_top]
  exact congrArg (Ideal.ofBits .f32) (by decide)

/-- The reference's power of two, as a factor: zero below the range, infinite above it, `2 ^ e` within. -/
theorem mul_pow_eq (a : EReal) (e : BitVec 32) :
    Scalar.select (IntOp.cmpi .slt e 4294967170#32) (0 : EReal) (a * Scalar.select (IntOp.cmpi .sgt e 127#32) (Ideal.ofBits .f32 2139095040#32)
      (FloatOps.exp2 (F := Ideal) (φ := .f32) (FloatOps.sitofp (F := Ideal) .f32 e))) = a * refPow e := by
  rw [ofBits_inf]
  unfold refPow Scalar.select IntOp.cmpi
  by_cases h : e.slt 4294967170#32
  · simp [h]
  · by_cases h' : (127#32).slt e
    · simp [h, h']
    · simp only [h, h']
      rfl

/-- The same with a second factor outside. -/
theorem mul_mul_pow_eq (a b : EReal) (e : BitVec 32) :
    Scalar.select (IntOp.cmpi .slt e 4294967170#32) (0 : EReal) (a * (b * Scalar.select (IntOp.cmpi .sgt e 127#32) (Ideal.ofBits .f32 2139095040#32)
      (FloatOps.exp2 (F := Ideal) (φ := .f32) (FloatOps.sitofp (F := Ideal) .f32 e)))) = a * (b * refPow e) := by
  rw [← mul_assoc, mul_pow_eq, mul_assoc]

/-- The power of two of a scale byte. -/
theorem bytePow (b : BitVec 8) : refPow (IntOp.subi (b.setWidth 32) 127#32) = byteVal b := (scale_byte b).symm

/-- The reference's dequantised activations. -/
theorem refAct_apply (x : Vec Ideal S768x1536 .fp8e4m3) (s : Vec Ideal S768x48 .i8) (n : Fin 768) (k : Fin 1536) :
    (k0_pay4 (F := Ideal) x s (ix2 n k) : EReal) = (x (ix2 n k) : EReal) * byteVal (s (ix2 n ⟨k.val / 32, by omega⟩)) := by
  pointwise [k0_pay4]
  rw [mul_pow_eq, bytePow]

/-- The reference's gate scales. -/
theorem refGateScale_apply (s : Vec Ideal S8960x48 .i8) (a : EReal) (f : Fin 8960) (q : Fin 48) :
    a * (k0_pay6 (F := Ideal) s (ix2 f q) : EReal) = a * byteVal (s (ix2 f q)) := by
  pointwise [k0_pay6]
  rw [mul_pow_eq, bytePow]

/-- The reference's gate codes, cut in groups. -/
theorem refGateCode_apply (w : Vec Ideal S8960x1536 .fp8e4m3) (f : Fin 8960) (k : Fin 1536) :
    (k0_pay5 (F := Ideal) w (ix3 f ⟨k.val / 32, by omega⟩ ⟨k.val % 32, by omega⟩) : EReal) = w (ix2 f k) := by
  pointwise [k0_pay5]

/-- The reference's activated values, cut in groups of 32 features. -/
theorem refVal_apply (x : Vec Ideal S768x1536 .fp8e4m3) (xs : Vec Ideal S768x48 .i8) (g : Vec Ideal S8960x1536 .fp8e4m3) (gs : Vec Ideal S8960x48 .i8)
    (u : Vec Ideal S8960x1536 .fp8e4m3) (us : Vec Ideal S8960x48 .i8) (n : Fin 768) (q : Fin 280) (k : Fin 32) :
    (k0_pay7 (F := Ideal) (k0_pay4 x xs) (k0_pay5 g) (k0_pay6 gs) u us (ix3 n q k) : EReal)
      = value (fun n k => (x (ix2 n k) : EReal) * byteVal (xs (ix2 n ⟨k.val / 32, by omega⟩))) (weightOf g gs) (weightOf u us) n
          ⟨q.val * 32 + k.val, by omega⟩ := by
  unfold value swiglu weightOf
  pointwise [k0_pay7]
  simp only [mul_mul_pow_eq, bytePow, refGateScale_apply, refGateCode_apply, refAct_apply]

/-- The bits of the float32 two. -/
theorem ofBits_two : Ideal.ofBits .f32 1073741824#32 = ((2 : ℝ) : EReal) := by
  have h : Ideal.ofBits .f32 1073741824#32 = fieldVal (BitVec.ofNat 32 128) := congrArg (Ideal.ofBits .f32) (by decide)
  rw [h, fieldVal_normal 128 (by omega) (by omega)]
  norm_num

/-- The reference's exponent, from the scaled magnitude. -/
theorem refExp_apply (Y : FVec Ideal S768x280 .f32) (n : Fin 768) (q : Fin 280) :
    k0_pay1 (F := Ideal) (andi (cmpf .oge Y (broadcast S768x280 (Scalar.ofBits (F := Ideal) .f32 0x00800000#32)))
      (cmpf .olt Y (broadcast S768x280 (Scalar.ofBits (F := Ideal) .f32 0x7F000000#32)))) (log Y) k0_pay11 (ix2 n q) = refExp (Y (ix2 n q)) := by
  pointwise [k0_pay1, k0_pay11]
  have h1 : Ideal.ofBits .f32 8388608#32 = fieldVal 1#32 := congrArg (Ideal.ofBits .f32) (by decide)
  have h2 : Ideal.ofBits .f32 2130706432#32 = fieldVal 254#32 := congrArg (Ideal.ofBits .f32) (by decide)
  rw [ofBits_two, h1, h2]
  unfold refExp Scalar.select IntOp.andi
  by_cases a : fieldVal 1#32 ≤ Y (ix2 n q) <;> by_cases b : Y (ix2 n q) < fieldVal 254#32
  · simp only [a, b]
    rfl
  all_goals simp [a, b]

/-- A product of two vectors, at an element. -/
theorem mulf_at {s : Shape} (a b : FVec Ideal s .f32) (i : s.Idx) : (mulf a b i : EReal) = (a i : EReal) * (b i : EReal) := rfl

/-- A maximum over the last axis, at an element. -/
theorem lastMax_apply (v : FVec Ideal S768x280x32 .f32) (h : Shape.Reduces S768x280x32 [2] S768x280) (hφ : FKind.Formats .f32)
    (hacc : (0xFF800000#32 : BitVec 32) = FKind.maximumf.neutral .f32 hφ) (n : Fin 768) (q : Fin 280) :
    (multiReduction .maximumf [2] S768x280 v 0xFF800000#32 h hφ hacc (ix2 n q) : EReal)
      = Finset.univ.fold max (Ideal.ofBits .f32 0xFF800000#32) fun k : Fin 32 => (v (ix3 n q k) : EReal) := by
  refine (Ideal.multiReduction_maximumf_single v _ h hφ hacc (ix2 n q)).trans ?_
  refine Finset.fold_congr (fun k _ => congrArg v (funext fun a => Fin.ext ?_))
  match a with
  | ⟨0, _⟩ => rfl
  | ⟨1, _⟩ => rfl
  | ⟨2, _⟩ => rfl

/-- The scaled magnitude of a group of 32 values, as the reference reduces it. -/
theorem reduce_apply (X : FVec Ideal S768x1536 .bf16) (G : FVec Ideal S8960x48x32 .bf16) (S : FVec Ideal S8960x48 .bf16)
    (U : Vec Ideal S8960x1536 .fp8e4m3) (us : Vec Ideal S8960x48 .i8) (n : Fin 768) (q : Fin 280) :
    (k0_pay8 (F := Ideal) X G S U us (ix2 n q) : EReal) = groupMax fun k => k0_pay7 (F := Ideal) X G S U us (ix3 n q k) := by
  unfold groupMax k0_pay8
  generalize k0_pay7 (F := Ideal) X G S U us = h
  dsimp only
  rw [mulf_at]
  refine congrArg₂ (fun a b : EReal => a * b) ?_ ?_
  · exact lastMax_apply (absf h) reduces_S768x280x32_S768x280 (.inl rfl) rfl n q
  · rfl

variable (x : Vec Ideal S768x1536 .fp8e4m3) (xs : Vec Ideal S768x48 .i8) (g : Vec Ideal S8960x1536 .fp8e4m3) (gs : Vec Ideal S8960x48 .i8)
  (u : Vec Ideal S8960x1536 .fp8e4m3) (us : Vec Ideal S8960x48 .i8)

/-- The activations the reference multiplies, token by token. -/
def refActs (n : Fin 768) (k : Fin 1536) : EReal := (x (ix2 n k) : EReal) * byteVal (xs (ix2 n ⟨k.val / 32, by omega⟩))

/-- The reference's scaled magnitudes. -/
theorem refMax_apply (n : Fin 768) (q : Fin 280) : (k0_pay8 (F := Ideal) (k0_pay4 x xs) (k0_pay5 g) (k0_pay6 gs) u us (ix2 n q) : EReal)
    = magnitude (refActs x xs) (weightOf g gs) (weightOf u us) n q :=
  (reduce_apply (k0_pay4 x xs) (k0_pay5 g) (k0_pay6 gs) u us n q).trans
    (congrArg groupMax (funext fun k => refVal_apply x xs g gs u us n q k))

/-- The reference's exponents. -/
theorem refExponent (n : Fin 768) (q : Fin 280) :
    k0_pay1 (F := Ideal) (k0_pay9 (k0_pay4 x xs) (k0_pay5 g) (k0_pay6 gs) u us) (k0_pay10 (k0_pay4 x xs) (k0_pay5 g) (k0_pay6 gs) u us) k0_pay11 (ix2 n q)
      = refExp (magnitude (refActs x xs) (weightOf g gs) (weightOf u us) n q) := by
  rw [← refMax_apply]
  unfold k0_pay9 k0_pay10
  generalize k0_pay8 (F := Ideal) (k0_pay4 x xs) (k0_pay5 g) (k0_pay6 gs) u us = Y
  exact refExp_apply Y n q

/-- The codes of the reference, from its exponents. -/
theorem codes_apply (h : FVec Ideal S768x280x32 .f32) (c : IVec S768x280 1) (a b : FVec Ideal S768x280 .f32) (n : Fin 768) (f : Fin 8960) :
    (k0_pay2 (F := Ideal) h c a b (ix2 n f) : EReal) = clip ((h (ix3 n ⟨f.val / 32, by omega⟩ ⟨f.val % 32, by omega⟩) : EReal)
      * refPow (0#32 - k0_pay1 (F := Ideal) c a b (ix2 n ⟨f.val / 32, by omega⟩))) := by
  pointwise [k0_pay2]
  rw [mul_pow_eq]
  rfl

/-- The scale bytes of the reference, from its exponents. -/
theorem scales_apply (c : IVec S768x280 1) (a b : FVec Ideal S768x280 .f32) (n : Fin 768) (q : Fin 280) :
    k0_pay3 (F := Ideal) c a b (ix2 n q) = (k0_pay1 (F := Ideal) c a b (ix2 n q) + 127#32).setWidth 8 := by
  pointwise [k0_pay3]
  rfl

/-- The codes the reference stores. -/
theorem refCodes (n : Fin 768) (f : Fin 8960) :
    (k0_pay2 (F := Ideal) (k0_pay7 (k0_pay4 x xs) (k0_pay5 g) (k0_pay6 gs) u us) (k0_pay9 (k0_pay4 x xs) (k0_pay5 g) (k0_pay6 gs) u us)
      (k0_pay10 (k0_pay4 x xs) (k0_pay5 g) (k0_pay6 gs) u us) k0_pay11 (ix2 n f) : EReal)
      = code (refActs x xs) (weightOf g gs) (weightOf u us) n f := by
  rw [codes_apply, refExponent]
  refine congrArg (fun v : EReal => clip (v * _)) ((refVal_apply x xs g gs u us n _ _).trans ?_)
  refine congrArg (value (refActs x xs) (weightOf g gs) (weightOf u us) n) (Fin.ext ?_)
  show f.val / 32 * 32 + f.val % 32 = f.val
  omega

/-- The scale bytes the reference stores. -/
theorem refScales (n : Fin 768) (q : Fin 280) :
    k0_pay3 (F := Ideal) (k0_pay9 (k0_pay4 x xs) (k0_pay5 g) (k0_pay6 gs) u us)
      (k0_pay10 (k0_pay4 x xs) (k0_pay5 g) (k0_pay6 gs) u us) k0_pay11 (ix2 n q)
      = scaleByte (refActs x xs) (weightOf g gs) (weightOf u us) n q := by
  rw [scales_apply, refExponent]
  rfl

end Cert.MxSwiglu
-- ==== Proof.ReferenceResult.lean ====
module

public import proofs.«01_k».proof.Proof.ReferenceBody
public import proofs.«01_k».proof.Proof.KernelResult

/-! What the reference's program returns: its one call stores the whole arrays, and batch and sequence are split again. -/

@[expose] public section

set_option maxRecDepth 16384

noncomputable section

namespace Cert.MxSwiglu

open Cert.ReferenceIdeal Cert.ReferenceIdeal.Gen Idealize.ShloMosaic Idealize.ShloMosaic.TcCoe Idealize.SL.Sem Idealize.ShloMosaic.Tactic

section
variable (x : Vec Ideal S768x1536 .fp8e4m3) (xs : Vec Ideal S768x48 .i8) (g : Vec Ideal S8960x1536 .fp8e4m3) (gs : Vec Ideal S8960x48 .i8)
  (u : Vec Ideal S8960x1536 .fp8e4m3) (us : Vec Ideal S8960x48 .i8)

/-- Every load of the reference reads a whole array. -/
theorem refLoads : View.ld x r0_0 = x ∧ View.ld xs r0_1 = xs ∧ View.ld g r0_2 = g ∧ View.ld gs r0_3 = gs :=
  ⟨View.ld_unit_zero (S := S768x1536) (by funext a; fin_cases a <;> rfl) _ x, View.ld_unit_zero (S := S768x48) (by funext a; fin_cases a <;> rfl) _ xs,
    View.ld_unit_zero (S := S8960x1536) (by funext a; fin_cases a <;> rfl) _ g, View.ld_unit_zero (S := S8960x48) (by funext a; fin_cases a <;> rfl) _ gs⟩

/-- The array of codes the call leaves. -/
theorem refOut_codes : out0_6 (F := Ideal) x xs g gs u us = fun i => code (refActs x xs) (weightOf g gs) (weightOf u us) ⟨(i 0).val, (i 0).isLt⟩ ⟨(i 1).val, (i 1).isLt⟩ := by
  unfold_out out0_6
  rw [(refLoads x xs g gs).1, (refLoads x xs g gs).2.1, (refLoads x xs g gs).2.2.1, (refLoads x xs g gs).2.2.2, (refLoads x xs u us).2.2.1,
    (refLoads x xs u us).2.2.2, View.canon_unit_zero (S := S768x8960) (by funext a; fin_cases a <;> rfl)]
  funext i
  rw [show i = ix2 ⟨(i 0).val, (i 0).isLt⟩ ⟨(i 1).val, (i 1).isLt⟩ from funext fun a => by fin_cases a <;> rfl]
  exact refCodes x xs g gs u us _ _

/-- The array of scale bytes the call leaves. -/
theorem refOut_scales : out0_7 (F := Ideal) x xs g gs u us = fun i => scaleByte (refActs x xs) (weightOf g gs) (weightOf u us) ⟨(i 0).val, (i 0).isLt⟩ ⟨(i 1).val, (i 1).isLt⟩ := by
  unfold_out out0_7
  rw [(refLoads x xs g gs).1, (refLoads x xs g gs).2.1, (refLoads x xs g gs).2.2.1, (refLoads x xs g gs).2.2.2, (refLoads x xs u us).2.2.1,
    (refLoads x xs u us).2.2.2, View.canon_unit_zero (S := S768x280) (by funext a; fin_cases a <;> rfl)]
  funext i
  rw [show i = ix2 ⟨(i 0).val, (i 0).isLt⟩ ⟨(i 1).val, (i 1).isLt⟩ from funext fun a => by fin_cases a <;> rfl]
  exact refScales x xs g gs u us _ _

end

variable (m : (ℓ : Loc nD τ sig) → Buf (Elt Ideal) ℓ) (c : Dev nD)

/-- The one point's block of each array is the whole array. -/
theorem refBlks (t : Fin cfg0.N) : iblk m c 0 t = V m c main_v0 ∧ iblk m c 1 t = V m c main_v1 ∧ iblk m c 2 t = V m c main_arg2
    ∧ iblk m c 3 t = V m c main_arg3 ∧ iblk m c 4 t = V m c main_arg4 ∧ iblk m c 5 t = V m c main_arg5 := by
  refine ⟨?_, ?_, ?_, ?_, ?_, ?_⟩
  · funext y
    refine congrArg (V m c main_v0) (funext fun a => Fin.ext ?_)
    match a with
    | ⟨0, _⟩ => show 0 * 768 + 1 * (y 0).val = (y 0).val; omega
    | ⟨1, _⟩ => show 0 * 1536 + 1 * (y 1).val = (y 1).val; omega
  · funext y
    refine congrArg (V m c main_v1) (funext fun a => Fin.ext ?_)
    match a with
    | ⟨0, _⟩ => show 0 * 768 + 1 * (y 0).val = (y 0).val; omega
    | ⟨1, _⟩ => show 0 * 48 + 1 * (y 1).val = (y 1).val; omega
  · funext y
    refine congrArg (V m c main_arg2) (funext fun a => Fin.ext ?_)
    match a with
    | ⟨0, _⟩ => show 0 * 8960 + 1 * (y 0).val = (y 0).val; omega
    | ⟨1, _⟩ => show 0 * 1536 + 1 * (y 1).val = (y 1).val; omega
  · funext y
    refine congrArg (V m c main_arg3) (funext fun a => Fin.ext ?_)
    match a with
    | ⟨0, _⟩ => show 0 * 8960 + 1 * (y 0).val = (y 0).val; omega
    | ⟨1, _⟩ => show 0 * 48 + 1 * (y 1).val = (y 1).val; omega
  · funext y
    refine congrArg (V m c main_arg4) (funext fun a => Fin.ext ?_)
    match a with
    | ⟨0, _⟩ => show 0 * 8960 + 1 * (y 0).val = (y 0).val; omega
    | ⟨1, _⟩ => show 0 * 1536 + 1 * (y 1).val = (y 1).val; omega
  · funext y
    refine congrArg (V m c main_arg5) (funext fun a => Fin.ext ?_)
    match a with
    | ⟨0, _⟩ => show 0 * 8960 + 1 * (y 0).val = (y 0).val; omega
    | ⟨1, _⟩ => show 0 * 48 + 1 * (y 1).val = (y 1).val; omega

/-- The call finds the activation codes with batch and sequence joined. -/
theorem refV_x : V m c main_v0 = shapeCast S768x1536 (m ((c : Thread nD τ).loc main_arg0)) shapeCasts_S6x128x1536_S768x1536 := by
  show StableHlo.after hostOps0 _ (Proc.devRef .tc main_v0) = _
  after_results
  rfl

/-- The call finds the activation scales with batch and sequence joined. -/
theorem refV_xs : V m c main_v1 = shapeCast S768x48 (m ((c : Thread nD τ).loc main_arg1)) shapeCasts_S6x128x48_S768x48 := by
  show StableHlo.after hostOps0 _ (Proc.devRef .tc main_v1) = _
  after_results
  rfl

/-- Scales with batch and sequence joined, at an element. -/
theorem joinedScale_apply {α : Type} (x : S6x128x48.Idx → α) (h) (n : Fin 768) (k : Fin 48) :
    shapeCast S768x48 x h (ix2 n k) = x (ix3 ⟨n.val / 128, by omega⟩ ⟨n.val % 128, by omega⟩ k) := by
  refine shapeCast_apply _ _ _ _ ?_
  rw [rowMajor_val2 _ _ rfl, rowMajor_val3 _ _ _ rfl rfl]
  show n.val / 128 * (128 * 48) + n.val % 128 * 48 + k.val = n.val * 48 + k.val
  omega

/-- Scale bytes with batch and sequence split, at an element. -/
theorem splitScale_apply {α : Type} (x : S768x280.Idx → α) (h) (i : S6x128x280.Idx) :
    shapeCast S6x128x280 x h i = x (ix2 ⟨128 * (i 0).val + (i 1).val, by
      have h0 : (i 0).val < 6 := (i 0).isLt; have h1 : (i 1).val < 128 := (i 1).isLt; omega⟩ ⟨(i 2).val, (i 2).isLt⟩) := by
  refine shapeCast_apply _ _ _ _ ?_
  rw [rowMajor_val2 _ _ rfl, rowMajor_val3 _ _ _ rfl rfl]
  show (128 * (i 0).val + (i 1).val) * 280 + (i 2).val = (i 0).val * (128 * 280) + (i 1).val * 280 + (i 2).val
  omega

/-- The reference's activations, token by token. -/
def refActsOf : Fin 768 → Fin 1536 → EReal := actOf (m ((c : Thread nD τ).loc main_arg0)) (m ((c : Thread nD τ).loc main_arg1))
/-- The reference's gate weights, feature by feature. -/
def refGatesOf : Fin 8960 → Fin 1536 → EReal := weightOf (m ((c : Thread nD τ).loc main_arg2)) (m ((c : Thread nD τ).loc main_arg3))
/-- The reference's up weights, feature by feature. -/
def refUpsOf : Fin 8960 → Fin 1536 → EReal := weightOf (m ((c : Thread nD τ).loc main_arg4)) (m ((c : Thread nD τ).loc main_arg5))

/-- The activations the call multiplies are those of the arguments. -/
theorem refActs_eq : refActs (V m c main_v0) (V m c main_v1) = refActsOf m c := by
  funext n k
  refine congrArg₂ (fun (a : EReal) b => a * byteVal b) ?_ ?_
  · rw [refV_x]
    exact joined_apply _ _ n k
  · rw [refV_xs]
    exact joinedScale_apply _ _ n _

/-- The codes the call leaves, as one array. -/
def refCodeArr : S768x8960.Idx → EReal := fun i => code (refActsOf m c) (refGatesOf m c) (refUpsOf m c) ⟨(i 0).val, (i 0).isLt⟩ ⟨(i 1).val, (i 1).isLt⟩

/-- The scale bytes the call leaves, as one array. -/
def refScaleArr : S768x280.Idx → BitVec 8 := fun i => scaleByte (refActsOf m c) (refGatesOf m c) (refUpsOf m c) ⟨(i 0).val, (i 0).isLt⟩ ⟨(i 1).val, (i 1).isLt⟩

/-- The one point writes back the codes. -/
theorem refFlushed_codes (t : Fin cfg0.N) : (dats m 0 c).flushed 6 t = ((cfg0.win 6).blk t).view.read (Elt Ideal) (refCodeArr m c) := by
  show (cfg0.win 6).cut (grid0.coords t) ((dats m 0 c).after 6 t) = _
  obtain ⟨h0, h1, h2, h3, h4, h5⟩ := refBlks m c t
  rw [after0_6, h0, h1, h2, h3, h4, h5, refOut_codes, refActs_eq, V_main_arg2, V_main_arg3, V_main_arg4, V_main_arg5]
  funext y
  refine congrArg₂ (code (refActsOf m c) (refGatesOf m c) (refUpsOf m c)) (Fin.ext ?_) (Fin.ext ?_)
  · show (y 0).val = 0 * 768 + 1 * (y 0).val; omega
  · show (y 1).val = 0 * 8960 + 1 * (y 1).val; omega

/-- The one point writes back the scale bytes. -/
theorem refFlushed_scales (t : Fin cfg0.N) : (dats m 0 c).flushed 7 t = ((cfg0.win 7).blk t).view.read (Elt Ideal) (refScaleArr m c) := by
  show (cfg0.win 7).cut (grid0.coords t) ((dats m 0 c).after 7 t) = _
  obtain ⟨h0, h1, h2, h3, h4, h5⟩ := refBlks m c t
  rw [after0_7, h0, h1, h2, h3, h4, h5, refOut_scales, refActs_eq, V_main_arg2, V_main_arg3, V_main_arg4, V_main_arg5]
  funext y
  refine congrArg₂ (scaleByte (refActsOf m c) (refGatesOf m c) (refUpsOf m c)) (Fin.ext ?_) (Fin.ext ?_)
  · show (y 0).val = 0 * 768 + 1 * (y 0).val; omega
  · show (y 1).val = 0 * 280 + 1 * (y 1).val; omega

/-- The one point writes its two blocks back. -/
theorem refFlushes : ∀ t : Fin cfg0.N, (cfg0.win 6).flush t = true ∧ (cfg0.win 7).flush t = true :=
  (by decide +kernel : ∀ t : Fin grid0.N, win0_6.flush t = true ∧ win0_7.flush t = true)

/-- The array of codes after the call. -/
theorem refFinal_codes : (dats m 0 c).arrAt 6 cfg0.N = refCodeArr m c :=
  (dats m 0 c).arrAt_eq_of_cover 6 _ (fun t _ => refFlushed_codes m c t) (fun i => by
    have h0 : (i 0).val < 768 := (i 0).isLt
    have h1 : (i 1).val < 8960 := (i 1).isLt
    let t : Fin cfg0.N := ⟨0, by decide⟩
    refine ⟨t, (refFlushes t).1, ?_⟩
    show i ∈ ((View.whole main_v2_0).slice (win0_6.rect t)).set
    rw [View.set_slice_whole, Rect.mem_set_unit]
    intro a
    match a with
    | ⟨0, _⟩ => show 0 * 768 ≤ (i 0).val ∧ (i 0).val < 0 * 768 + 768; omega
    | ⟨1, _⟩ => show 0 * 8960 ≤ (i 1).val ∧ (i 1).val < 0 * 8960 + 8960; omega)

/-- The array of scale bytes after the call. -/
theorem refFinal_scales : (dats m 0 c).arrAt 7 cfg0.N = refScaleArr m c :=
  (dats m 0 c).arrAt_eq_of_cover 7 _ (fun t _ => refFlushed_scales m c t) (fun i => by
    have h0 : (i 0).val < 768 := (i 0).isLt
    have h1 : (i 1).val < 280 := (i 1).isLt
    let t : Fin cfg0.N := ⟨0, by decide⟩
    refine ⟨t, (refFlushes t).2, ?_⟩
    show i ∈ ((View.whole main_v2_1).slice (win0_7.rect t)).set
    rw [View.set_slice_whole, Rect.mem_set_unit]
    intro a
    match a with
    | ⟨0, _⟩ => show 0 * 768 ≤ (i 0).val ∧ (i 0).val < 0 * 768 + 768; omega
    | ⟨1, _⟩ => show 0 * 280 ≤ (i 1).val ∧ (i 1).val < 0 * 280 + 280; omega)

/-- The first result of the reference. -/
theorem refTail_codes : Pipeline.afterTail₀ cfgs (dats m) 0 (V0 m) [hostOps1] c main_v3 = codesOut (refActsOf m c) (refGatesOf m c) (refUpsOf m c) := by
  show StableHlo.after hostOps1 (Pipeline.withArrays spec0 c (V0 m c) fun w => (dats m 0 c).arrAt w cfg0.N) (Proc.devRef .tc main_v3) = _
  after_results
  have h := Pipeline.withArrays_arr spec0 (by decide) c (V0 m c) (fun w => (dats m 0 c).arrAt w cfg0.N) 6
  refine (congrArg (fun x => shapeCast S6x128x8960 x shapeCasts_S768x8960_S6x128x8960) (h.trans (refFinal_codes m c))).trans ?_
  funext i
  exact split_apply (refCodeArr m c) _ i

/-- The second result of the reference. -/
theorem refTail_scales : Pipeline.afterTail₀ cfgs (dats m) 0 (V0 m) [hostOps1] c main_v4 = scalesOut (refActsOf m c) (refGatesOf m c) (refUpsOf m c) := by
  show StableHlo.after hostOps1 (Pipeline.withArrays spec0 c (V0 m c) fun w => (dats m 0 c).arrAt w cfg0.N) (Proc.devRef .tc main_v4) = _
  after_results
  have h := Pipeline.withArrays_arr spec0 (by decide) c (V0 m c) (fun w => (dats m 0 c).arrAt w cfg0.N) 7
  refine (congrArg (fun x => shapeCast S6x128x280 x shapeCasts_S768x280_S6x128x280) (h.trans (refFinal_scales m c))).trans ?_
  funext i
  exact splitScale_apply (refScaleArr m c) _ i

end Cert.MxSwiglu
-- ==== Proof.ReferenceRun.lean ====
module

public import proofs.«01_k».proof.Proof.ReferenceResult

/-! Every run of the reference's program returns the specification's codes and scale bytes. -/

@[expose] public section

set_option maxRecDepth 16384

noncomputable section

namespace Cert.MxSwiglu

open Cert.ReferenceIdeal Cert.ReferenceIdeal.Gen Idealize.ShloMosaic Idealize.ShloMosaic.TcCoe Idealize.SL.Sem

variable (m : (ℓ : Loc nD τ sig) → Buf (Elt Ideal) ℓ) (g : Dev nD → PrngReg)

/-- Every run of the reference's program ends with the specification's codes and scale bytes of its arguments, which stay as they were. -/
theorem reference_run : θ_run (defs (F := Ideal)) (onTc (τ := τ) (main (F := Ideal))) ⟨m, fun _ => 0, g⟩ (fun r => ∀ c : Dev nD,
      r.2.mem ((c.tc : Thread nD τ).loc main_v3) = codesOut (refActsOf m c) (refGatesOf m c) (refUpsOf m c)
      ∧ r.2.mem ((c.tc : Thread nD τ).loc main_v4) = scalesOut (refActsOf m c) (refGatesOf m c) (refUpsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v3 (Pipeline.mem_restRefs_of main_v3 (by decide) (by decide))).trans (refTail_codes m c),
      ((h c).2 main_v4 (Pipeline.mem_restRefs_of main_v4 (by decide) (by decide))).trans (refTail_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m g)

end Cert.MxSwiglu
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import proofs.«01_k».proof.Proof.KernelRun
public import proofs.«01_k».proof.Proof.ReferenceRun
public import Idealize.ShloMosaic.Init

@[expose] public section

noncomputable section

namespace Cert.Proof

open Idealize.ShloMosaic Idealize.SL.Sem Cert.Kernel

/-- The kernel and the reference return the same codes and the same scale bytes: both return the specification's. -/
theorem algebraic [Cert.KernelIdeal.Facts] [Cert.ReferenceIdeal.Facts] : Cert.algebraic_KernelIdeal_ReferenceIdeal := by
  intro m g m' g' _ hargs
  refine ⟨fun c => MxSwiglu.codesOut (MxSwiglu.actsOf m c) (MxSwiglu.gatesOf m c) (MxSwiglu.upsOf m c),
    fun c => MxSwiglu.scalesOut (MxSwiglu.actsOf m c) (MxSwiglu.gatesOf m c) (MxSwiglu.upsOf m c), MxSwiglu.kernel_run m g, ?_⟩
  refine (θ_run _ _ _).mono (fun r h c => ?_) (MxSwiglu.reference_run m' g')
  obtain ⟨h0, h1, h2, h3, h4, h5⟩ := hargs c
  have hx : MxSwiglu.refActsOf m' c = MxSwiglu.actsOf m c := congrArg₂ MxSwiglu.actOf h0 h1
  have hg : MxSwiglu.refGatesOf m' c = MxSwiglu.gatesOf m c := congrArg₂ MxSwiglu.weightOf h2 h3
  have hu : MxSwiglu.refUpsOf m' c = MxSwiglu.upsOf m c := congrArg₂ MxSwiglu.weightOf h4 h5
  obtain ⟨hc, hs, hrest⟩ := h c
  rw [hx, hg, hu] at hc hs
  exact ⟨hc, hs, hrest⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
